-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x2048 : Shape := ⟨3, ![64, 1, 2048]⟩
abbrev S2048x32 : Shape := ⟨2, ![2048, 32]⟩
abbrev S32x2048x1024 : Shape := ⟨3, ![32, 2048, 1024]⟩
abbrev S32x16x2048 : Shape := ⟨3, ![32, 16, 2048]⟩
abbrev S32x1024x1024 : Shape := ⟨3, ![32, 1024, 1024]⟩
abbrev S32x8x2048 : Shape := ⟨3, ![32, 8, 2048]⟩
abbrev S64x2048 : Shape := ⟨2, ![64, 2048]⟩
abbrev S1x2048x1024 : Shape := ⟨3, ![1, 2048, 1024]⟩
abbrev S1x16x2048 : Shape := ⟨3, ![1, 16, 2048]⟩
abbrev S1x1024x1024 : Shape := ⟨3, ![1, 1024, 1024]⟩
abbrev S1x8x2048 : Shape := ⟨3, ![1, 8, 2048]⟩
abbrev S64x32 : Shape := ⟨2, ![64, 32]⟩
abbrev S192x256 : Shape := ⟨2, ![192, 256]⟩
abbrev S256x256 : Shape := ⟨2, ![256, 256]⟩
abbrev S64 : Shape := ⟨1, ![64]⟩
abbrev S64x1 : Shape := ⟨2, ![64, 1]⟩
abbrev S16x2048 : Shape := ⟨2, ![16, 2048]⟩
abbrev S8x2048 : Shape := ⟨2, ![8, 2048]⟩
abbrev S16x256 : Shape := ⟨2, ![16, 256]⟩
abbrev S8x256 : Shape := ⟨2, ![8, 256]⟩
abbrev S2048x1024 : Shape := ⟨2, ![2048, 1024]⟩
abbrev S2048x256 : Shape := ⟨2, ![2048, 256]⟩
abbrev S512x256 : Shape := ⟨2, ![512, 256]⟩
abbrev S1x128 : Shape := ⟨2, ![1, 128]⟩
abbrev S128x128 : Shape := ⟨2, ![128, 128]⟩
abbrev S128x256 : Shape := ⟨2, ![128, 256]⟩
abbrev S64x256 : Shape := ⟨2, ![64, 256]⟩
abbrev S64x128 : Shape := ⟨2, ![64, 128]⟩
abbrev S64x1024 : Shape := ⟨2, ![64, 1024]⟩
abbrev S1024x1024 : Shape := ⟨2, ![1024, 1024]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S64x1x2048, .f32⟩
  | .hbm, ⟨1, _⟩ => ⟨S2048x32, .f32⟩
  | .hbm, ⟨2, _⟩ => ⟨S32x2048x1024, .i8⟩
  | .hbm, ⟨3, _⟩ => ⟨S32x16x2048, .bf16⟩
  | .hbm, ⟨4, _⟩ => ⟨S32x1024x1024, .i8⟩
  | .hbm, ⟨5, _⟩ => ⟨S32x8x2048, .bf16⟩
  | .hbm, ⟨6, _⟩ => ⟨S64x2048, .f32⟩
  | .hbm, ⟨7, _⟩ => ⟨S64x2048, .f32⟩
  | .local _ .vmem, ⟨0, _⟩ => ⟨S64x2048, .f32⟩
  | .local _ .vmem, ⟨1, _⟩ => ⟨S2048x32, .f32⟩
  | .local _ .vmem, ⟨2, _⟩ => ⟨S1x2048x1024, .i8⟩
  | .local _ .vmem, ⟨3, _⟩ => ⟨S1x2048x1024, .i8⟩
  | .local _ .vmem, ⟨4, _⟩ => ⟨S1x16x2048, .bf16⟩
  | .local _ .vmem, ⟨5, _⟩ => ⟨S1x16x2048, .bf16⟩
  | .local _ .vmem, ⟨6, _⟩ => ⟨S1x1024x1024, .i8⟩
  | .local _ .vmem, ⟨7, _⟩ => ⟨S1x1024x1024, .i8⟩
  | .local _ .vmem, ⟨8, _⟩ => ⟨S1x8x2048, .bf16⟩
  | .local _ .vmem, ⟨9, _⟩ => ⟨S1x8x2048, .bf16⟩
  | .local _ .vmem, ⟨10, _⟩ => ⟨S64x2048, .f32⟩
  | .local _ .vmem, ⟨11, _⟩ => ⟨S64x2048, .bf16⟩
  | .local _ .vmem, ⟨12, _⟩ => ⟨S64x32, .f32⟩
  | .local _ .vmem, ⟨13, _⟩ => ⟨S64x2048, .f32⟩
  | .local _ .vmem, ⟨14, _⟩ => ⟨S192x256, .f32⟩
  | .local _ .vmem, ⟨15, _⟩ => ⟨S256x256, .bf16⟩
  | _, _ => ⟨S64x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v2525 : BitVec 1 := Scalar.cmpi .eq arg0 c31_i32
  let v2526 : BitVec 32 := Scalar.extui v2525
  let c0_i32_738 : BitVec 32 := 0#32
  let v2527 : BitVec 1 := Scalar.cmpi .ne v2526 c0_i32_738
  v2527

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1x2048 : Shape := ⟨3, ![64, 1, 2048]⟩
abbrev S2048x32 : Shape := ⟨2, ![2048, 32]⟩
abbrev S32x2048x1024 : Shape := ⟨3, ![32, 2048, 1024]⟩
abbrev S32x16x2048 : Shape := ⟨3, ![32, 16, 2048]⟩
abbrev S32x1024x1024 : Shape := ⟨3, ![32, 1024, 1024]⟩
abbrev S32x8x2048 : Shape := ⟨3, ![32, 8, 2048]⟩
abbrev S64x2048 : Shape := ⟨2, ![64, 2048]⟩
abbrev S64x32 : Shape := ⟨2, ![64, 32]⟩
abbrev S64x4 : Shape := ⟨2, ![64, 4]⟩
abbrev S_ : Shape := ⟨0, ![]⟩
abbrev S64 : Shape := ⟨1, ![64]⟩
abbrev S64x1 : Shape := ⟨2, ![64, 1]⟩
abbrev S64x4x1 : Shape := ⟨3, ![64, 4, 1]⟩
abbrev S1x1x32 : Shape := ⟨3, ![1, 1, 32]⟩
abbrev S64x4x32 : Shape := ⟨3, ![64, 4, 32]⟩
abbrev S32x2048x1024x1 : Shape := ⟨4, ![32, 2048, 1024, 1]⟩
abbrev S32x2048x1024x2 : Shape := ⟨4, ![32, 2048, 1024, 2]⟩
abbrev S32x2048x2048 : Shape := ⟨3, ![32, 2048, 2048]⟩
abbrev S32x16x128x2048 : Shape := ⟨4, ![32, 16, 128, 2048]⟩
abbrev S32x16x1x2048 : Shape := ⟨4, ![32, 16, 1, 2048]⟩
abbrev S32x2048x64 : Shape := ⟨3, ![32, 2048, 64]⟩
abbrev S32x64x2048 : Shape := ⟨3, ![32, 64, 2048]⟩
abbrev S32x64x1024 : Shape := ⟨3, ![32, 64, 1024]⟩
abbrev S32x1024x1024x1 : Shape := ⟨4, ![32, 1024, 1024, 1]⟩
abbrev S32x1024x1024x2 : Shape := ⟨4, ![32, 1024, 1024, 2]⟩
abbrev S32x1024x2048 : Shape := ⟨3, ![32, 1024, 2048]⟩
abbrev S32x8x128x2048 : Shape := ⟨4, ![32, 8, 128, 2048]⟩
abbrev S32x8x1x2048 : Shape := ⟨4, ![32, 8, 1, 2048]⟩

abbrev nBuf : Space → Nat
  | .hbm => 111
  | .vmem => 0
  | .smem => 0
  | _ => 0

abbrev bufTy : (tb : Table) → Fin (tcTables nBuf tb) → BufTy
  | .hbm, ⟨0, _⟩ => ⟨S64x1x2048, .f32⟩
  | .hbm, ⟨1, _⟩ => ⟨S2048x32, .f32⟩
  | .hbm, ⟨2, _⟩ => ⟨S32x2048x1024, .i8⟩
  | .hbm, ⟨3, _⟩ => ⟨S32x16x2048, .bf16⟩
  | .hbm, ⟨4, _⟩ => ⟨S32x1024x1024, .i8⟩
  | .hbm, ⟨5, _⟩ => ⟨S32x8x2048, .bf16⟩
  | .hbm, ⟨6, _⟩ => ⟨S64x2048, .f32⟩
  | .hbm, ⟨7, _⟩ => ⟨S64x32, .f32⟩
  | .hbm, ⟨8, _⟩ => ⟨S64x4, .f32⟩
  | .hbm, ⟨9, _⟩ => ⟨S64x4, .i32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x4, .f32⟩
  | .hbm, ⟨17, _⟩ => ⟨S64x4, .f32⟩
  | .hbm, ⟨18, _⟩ => ⟨S64x4, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S64x4, .f32⟩
  | .hbm, ⟨23, _⟩ => ⟨S64x4, .f32⟩
  | .hbm, ⟨24, _⟩ => ⟨S64x4x1, .i32⟩
  | .hbm, ⟨25, _⟩ => ⟨S1x1x32, .i32⟩
  | .hbm, ⟨26, _⟩ => ⟨S64x4x32, .i32⟩
  | .hbm, ⟨27, _⟩ => ⟨S64x4x32, .i32⟩
  | .hbm, ⟨28, _⟩ => ⟨S64x4x32, .i1⟩
  | .hbm, ⟨29, _⟩ => ⟨S64x4x32, .f32⟩
  | .hbm, ⟨30, _⟩ => ⟨S64x4x1, .f32⟩
  | .hbm, ⟨31, _⟩ => ⟨S64x4x32, .f32⟩
  | .hbm, ⟨32, _⟩ => ⟨S64x4x32, .f32⟩
  | .hbm, ⟨33, _⟩ => ⟨S_, .f32⟩
  | .hbm, ⟨34, _⟩ => ⟨S64x32, .f32⟩
  | .hbm, ⟨35, _⟩ => ⟨S64x2048, .bf16⟩
  | .hbm, ⟨36, _⟩ => ⟨S32x2048x1024, .i32⟩
  | .hbm, ⟨37, _⟩ => ⟨S_, .i32⟩
  | .hbm, ⟨38, _⟩ => ⟨S32x2048x1024, .i32⟩
  | .hbm, ⟨39, _⟩ => ⟨S32x2048x1024, .i32⟩
  | .hbm, ⟨40, _⟩ => ⟨S_, .i32⟩
  | .hbm, ⟨41, _⟩ => ⟨S32x2048x1024, .i32⟩
  | .hbm, ⟨42, _⟩ => ⟨S32x2048x1024, .i32⟩
  | .hbm, ⟨43, _⟩ => ⟨S_, .i32⟩
  | .hbm, ⟨44, _⟩ => ⟨S32x2048x1024, .i32⟩
  | .hbm, ⟨45, _⟩ => ⟨S32x2048x1024, .i32⟩
  | .hbm, ⟨46, _⟩ => ⟨S32x2048x1024x1, .i32⟩
  | .hbm, ⟨47, _⟩ => ⟨S32x2048x1024x1, .i32⟩
  | .hbm, ⟨48, _⟩ => ⟨S32x2048x1024x2, .i32⟩
  | .hbm, ⟨49, _⟩ => ⟨S_, .i32⟩
  | .hbm, ⟨50, _⟩ => ⟨S32x2048x1024x2, .i32⟩
  | .hbm, ⟨51, _⟩ => ⟨S32x2048x1024x2, .i1⟩
  | .hbm, ⟨52, _⟩ => ⟨S_, .i32⟩
  | .hbm, ⟨53, _⟩ => ⟨S32x2048x1024x2, .i32⟩
  | .hbm, ⟨54, _⟩ => ⟨S32x2048x1024x2, .i32⟩
  | .hbm, ⟨55, _⟩ => ⟨S32x2048x1024x2, .i32⟩
  | .hbm, ⟨56, _⟩ => ⟨S32x2048x1024x2, .i8⟩
  | .hbm, ⟨57, _⟩ => ⟨S32x2048x2048, .i8⟩
  | .hbm, ⟨58, _⟩ => ⟨S32x2048x2048, .i32⟩
  | .hbm, ⟨59, _⟩ => ⟨S32x2048x2048, .bf16⟩
  | .hbm, ⟨60, _⟩ => ⟨S32x16x128x2048, .bf16⟩
  | .hbm, ⟨61, _⟩ => ⟨S32x16x1x2048, .bf16⟩
  | .hbm, ⟨62, _⟩ => ⟨S32x16x128x2048, .bf16⟩
  | .hbm, ⟨63, _⟩ => ⟨S32x16x128x2048, .bf16⟩
  | .hbm, ⟨64, _⟩ => ⟨S32x2048x2048, .bf16⟩
  | .hbm, ⟨65, _⟩ => ⟨S32x2048x64, .f32⟩
  | .hbm, ⟨66, _⟩ => ⟨S32x64x2048, .f32⟩
  | .hbm, ⟨67, _⟩ => ⟨S32x64x1024, .f32⟩
  | .hbm, ⟨68, _⟩ => ⟨S32x64x1024, .f32⟩
  | .hbm, ⟨69, _⟩ => ⟨S32x64x1024, .f32⟩
  | .hbm, ⟨70, _⟩ => ⟨S32x64x1024, .f32⟩
  | .hbm, ⟨71, _⟩ => ⟨S_, .f32⟩
  | .hbm, ⟨72, _⟩ => ⟨S32x64x1024, .f32⟩
  | .hbm, ⟨73, _⟩ => ⟨S32x64x1024, .f32⟩
  | .hbm, ⟨74, _⟩ => ⟨S_, .f32⟩
  | .hbm, ⟨75, _⟩ => ⟨S32x64x1024, .f32⟩
  | .hbm, ⟨76, _⟩ => ⟨S32x64x1024, .f32⟩
  | .hbm, ⟨77, _⟩ => ⟨S32x64x1024, .f32⟩
  | .hbm, ⟨78, _⟩ => ⟨S32x64x1024, .f32⟩
  | .hbm, ⟨79, _⟩ => ⟨S32x64x1024, .bf16⟩
  | .hbm, ⟨80, _⟩ => ⟨S32x1024x1024, .i32⟩
  | .hbm, ⟨81, _⟩ => ⟨S_, .i32⟩
  | .hbm, ⟨82, _⟩ => ⟨S32x1024x1024, .i32⟩
  | .hbm, ⟨83, _⟩ => ⟨S32x1024x1024, .i32⟩
  | .hbm, ⟨84, _⟩ => ⟨S_, .i32⟩
  | .hbm, ⟨85, _⟩ => ⟨S32x1024x1024, .i32⟩
  | .hbm, ⟨86, _⟩ => ⟨S32x1024x1024, .i32⟩
  | .hbm, ⟨87, _⟩ => ⟨S_, .i32⟩
  | .hbm, ⟨88, _⟩ => ⟨S32x1024x1024, .i32⟩
  | .hbm, ⟨89, _⟩ => ⟨S32x1024x1024, .i32⟩
  | .hbm, ⟨90, _⟩ => ⟨S32x1024x1024x1, .i32⟩
  | .hbm, ⟨91, _⟩ => ⟨S32x1024x1024x1, .i32⟩
  | .hbm, ⟨92, _⟩ => ⟨S32x1024x1024x2, .i32⟩
  | .hbm, ⟨93, _⟩ => ⟨S_, .i32⟩
  | .hbm, ⟨94, _⟩ => ⟨S32x1024x1024x2, .i32⟩
  | .hbm, ⟨95, _⟩ => ⟨S32x1024x1024x2, .i1⟩
  | .hbm, ⟨96, _⟩ => ⟨S_, .i32⟩
  | .hbm, ⟨97, _⟩ => ⟨S32x1024x1024x2, .i32⟩
  | .hbm, ⟨98, _⟩ => ⟨S32x1024x1024x2, .i32⟩
  | .hbm, ⟨99, _⟩ => ⟨S32x1024x1024x2, .i32⟩
  | .hbm, ⟨100, _⟩ => ⟨S32x1024x1024x2, .i8⟩
  | .hbm, ⟨101, _⟩ => ⟨S32x1024x2048, .i8⟩
  | .hbm, ⟨102, _⟩ => ⟨S32x1024x2048, .i32⟩
  | .hbm, ⟨103, _⟩ => ⟨S32x1024x2048, .bf16⟩
  | .hbm, ⟨104, _⟩ => ⟨S32x8x128x2048, .bf16⟩
  | .hbm, ⟨105, _⟩ => ⟨S32x8x1x2048, .bf16⟩
  | .hbm, ⟨106, _⟩ => ⟨S32x8x128x2048, .bf16⟩
  | .hbm, ⟨107, _⟩ => ⟨S32x8x128x2048, .bf16⟩
  | .hbm, ⟨108, _⟩ => ⟨S32x1024x2048, .bf16⟩
  | .hbm, ⟨109, _⟩ => ⟨S32x64x2048, .f32⟩
  | .hbm, ⟨110, _⟩ => ⟨S64x2048, .f32⟩
  | _, _ => ⟨S64x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_7 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_10 : Ref sig .tc := ⟨.hbm, 93, rfl⟩
abbrev main_v60 : Ref sig .tc := ⟨.hbm, 94, rfl⟩
abbrev main_v61 : Ref sig .tc := ⟨.hbm, 95, rfl⟩
abbrev main_c_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Proof.Mirror.lean ====
module

public import proofs.«01_k».proof.Proof.Gen.KernelIdeal.Value
public import Idealize.ShloMosaic.Lib.WholeRead
public import Idealize.ShloMosaic.Lib.Pipeline.ReadBack
public import Idealize.ShloMosaic.Lib.Pointwise
public import Idealize.ShloMosaic.Lib.ValueLayout

/-!
The kernel body, written once with the group, the column block and the parity as parameters.  The generated payloads are the
instances of these functions at literal parameters.
-/

@[expose] public section

set_option maxRecDepth 16384

noncomputable section

namespace Cert.Moe

open Idealize.ShloMosaic Idealize.ShloMosaic.Tactic Cert.KernelIdeal Cert.KernelIdeal.Gen

variable {F : FTy → Type} [FloatOps F]

/-! ### Loads -/

/-- Row `r` of the scale scratch, the 128 columns from `o`. -/
def scRow (w : Vec F S192x256 .f32) (r o : ℕ) : Vec F S1x128 .f32 :=
  fun j => w (ix2 ⟨r % 192, Nat.mod_lt _ (by norm_num)⟩ ⟨(o + (j 1).val) % 256, Nat.mod_lt _ (by norm_num)⟩)

/-- 256 columns of the packed gate/up weights, from column `o`. -/
def guCols (x : Vec F S1x2048x1024 .i8) (o : ℕ) : Vec F S2048x256 .i8 :=
  fun j => x (ix3 0 (j 0) ⟨(o + (j 1).val) % 1024, Nat.mod_lt _ (by norm_num)⟩)

/-- 256 columns of the packed down weights, from column `o`. -/
def dnCols (x : Vec F S1x1024x1024 .i8) (o : ℕ) : Vec F S1024x256 .i8 :=
  fun j => x (ix3 0 (j 0) ⟨(o + (j 1).val) % 1024, Nat.mod_lt _ (by norm_num)⟩)

/-- 128 columns of the accumulator, from column `o`. -/
def accCols (x : Vec F S64x2048 .f32) (o : ℕ) : Vec F S64x128 .f32 :=
  fun j => x (ix2 (j 0) ⟨(o + (j 1).val) % 2048, Nat.mod_lt _ (by norm_num)⟩)

/-- 256 columns of the accumulator, from column `o`. -/
def accCols2 (x : Vec F S64x2048 .f32) (o : ℕ) : Vec F S64x256 .f32 :=
  fun j => x (ix2 (j 0) ⟨(o + (j 1).val) % 2048, Nat.mod_lt _ (by norm_num)⟩)

/-- A unit-stride window of a matrix reads at its offset plus the index. -/
theorem idx_unit2 {m n : ℕ} {a b : ℕ} {size : Fin 2 → ℕ}
    (inb : ∀ i, (![a, b] : Fin 2 → ℕ) i + size i ≤ (⟨2, ![m, n]⟩ : Shape).size i)
    (j : ((Rect.unit (s := ⟨2, ![m, n]⟩) ![a, b] size inb).toLoadRect).shape.Idx) (p : Fin m) (q : Fin n)
    (hp : p.val = a + (j 0).val) (hq : q.val = b + (j 1).val) :
    (Rect.unit (s := ⟨2, ![m, n]⟩) ![a, b] size inb).toLoadRect.idx j = ix2 p q := by
  funext i
  apply Fin.ext
  fin_cases i
  · refine Eq.trans ?_ hp.symm
    show a + 1 * (j 0).val = _
    rw [Nat.one_mul]
  · refine Eq.trans ?_ hq.symm
    show b + 1 * (j 1).val = _
    rw [Nat.one_mul]

/-- A load of one row of a scratch filled whole reads that row. -/
theorem readCov_scRow {sig : RefSig} {κ : Kind} {sp : Space} (v : View sig κ sp S192x256 .f32)
    (inb : ∀ a, (![0, 0] : Fin 2 → ℕ) a + S192x256.size a ≤ S192x256.size a) (w : Vec F S192x256 .f32) (r o : ℕ)
    (inb' : ∀ a, (![r, o] : Fin 2 → ℕ) a + S1x128.size a ≤ S192x256.size a) :
    v.readCov (Val := Elt F) [⟨Rect.unit (s := S192x256) ![0, 0] S192x256.size inb, w⟩]
      (Rect.unit (s := S192x256) ![r, o] S1x128.size inb').toLoadRect = scRow w r o := by
  refine (View.readCov_fill (Val := Elt F) v inb w [] (Rect.unit (s := S192x256) ![r, o] S1x128.size inb') (by decide)).trans ?_
  funext j
  have h0 : r + 1 ≤ 192 := inb' 0
  have h1 : o + 128 ≤ 256 := inb' 1
  have j0 : (j 0).val < 1 := (j 0).isLt
  have j1 : (j 1).val < 128 := (j 1).isLt
  refine congrArg w (idx_unit2 inb' j _ _ ?_ ?_)
  · show r % 192 = _
    omega
  · show (o + (j 1).val) % 256 = _
    omega

/-- The whole window of an array embeds each index as itself. -/
theorem emb_whole3 {m n : ℕ} (inb : ∀ i, (![0, 0, 0] : Fin 3 → ℕ) i + (⟨3, ![1, m, n]⟩ : Shape).size i ≤ (⟨3, ![1, m, n]⟩ : Shape).size i)
    (j : (⟨3, ![1, m, n]⟩ : Shape).Idx) :
    (Rect.unit (s := ⟨3, ![1, m, n]⟩) ![0, 0, 0] (⟨3, ![1, m, n]⟩ : Shape).size inb).emb j = j := by
  funext i
  apply Fin.ext
  have e (k : ℕ) : 0 + 1 * k = k := by omega
  fin_cases i
  · exact e (j 0).val
  · exact e (j 1).val
  · exact e (j 2).val

/-- A load of 256 gate/up columns through the squeezed view reads those columns. -/
theorem readAt_guCols {sig : RefSig} {κ : Kind} {sp : Space} (m : Memref sig κ sp S1x2048x1024 .i8) (hm : m.IsWhole)
    (x : Vec F S1x2048x1024 .i8) (inb h1) (hq : S1x2048x1024.Squeezes S2048x1024) (o : ℕ)
    (inb' : ∀ a, (![0, o] : Fin 2 → ℕ) a + S2048x256.size a ≤ S2048x1024.size a) :
    View.readAt (Elt F) ((m.slice (Rect.unit (s := S1x2048x1024) ![0, 0, 0] S1x2048x1024.size inb) h1).squeeze S2048x1024 hq).view
      (Rect.unit (s := S2048x1024) ![0, o] S2048x256.size inb').toLoadRect (hm.unread x) = guCols x o := by
  funext j
  refine (hm.readAt_slice_reshape_unread x _ _ _ _).trans (congrArg x ?_)
  have hc : o + 256 ≤ 1024 := inb' 1
  have j1 : (j 1).val < 256 := (j 1).isLt
  rw [idx_unit2 inb' j (j 0) ⟨(o + (j 1).val) % 1024, Nat.mod_lt _ (by norm_num)⟩ (Nat.zero_add _).symm
    (by show (o + (j 1).val) % 1024 = _; omega)]
  exact (emb_whole3 inb _).trans (ValueIdx.reshapeEquiv_ix2_1ab _ _ _)

/-- A load of 256 down columns through the squeezed view reads those columns. -/
theorem readAt_dnCols {sig : RefSig} {κ : Kind} {sp : Space} (m : Memref sig κ sp S1x1024x1024 .i8) (hm : m.IsWhole)
    (x : Vec F S1x1024x1024 .i8) (inb h1) (hq : S1x1024x1024.Squeezes S1024x1024) (o : ℕ)
    (inb' : ∀ a, (![0, o] : Fin 2 → ℕ) a + S1024x256.size a ≤ S1024x1024.size a) :
    View.readAt (Elt F) ((m.slice (Rect.unit (s := S1x1024x1024) ![0, 0, 0] S1x1024x1024.size inb) h1).squeeze S1024x1024 hq).view
      (Rect.unit (s := S1024x1024) ![0, o] S1024x256.size inb').toLoadRect (hm.unread x) = dnCols x o := by
  funext j
  refine (hm.readAt_slice_reshape_unread x _ _ _ _).trans (congrArg x ?_)
  have hc : o + 256 ≤ 1024 := inb' 1
  have j1 : (j 1).val < 256 := (j 1).isLt
  rw [idx_unit2 inb' j (j 0) ⟨(o + (j 1).val) % 1024, Nat.mod_lt _ (by norm_num)⟩ (Nat.zero_add _).symm
    (by show (o + (j 1).val) % 1024 = _; omega)]
  exact (emb_whole3 inb _).trans (ValueIdx.reshapeEquiv_ix2_1ab _ _ _)

/-- A load of 128 accumulator columns reads those columns. -/
theorem readAt_accCols {sig : RefSig} {κ : Kind} {sp : Space} (m : Memref sig κ sp S64x2048 .f32) (hm : m.IsWhole)
    (x : Vec F S64x2048 .f32) (o : ℕ) (inb' : ∀ a, (![0, o] : Fin 2 → ℕ) a + S64x128.size a ≤ S64x2048.size a) :
    View.readAt (Elt F) m.view (Rect.unit (s := S64x2048) ![0, o] S64x128.size inb').toLoadRect (hm.unread x) = accCols x o := by
  funext j
  refine (hm.readAt_unread x _ _).trans (congrArg x ?_)
  have hc : o + 128 ≤ 2048 := inb' 1
  have j1 : (j 1).val < 128 := (j 1).isLt
  exact idx_unit2 inb' j (j 0) _ (Nat.zero_add _).symm (by show (o + (j 1).val) % 2048 = _; omega)

/-- The same load with its size written out. -/
theorem readAt_accCols' {sig : RefSig} {κ : Kind} {sp : Space} (m : Memref sig κ sp S64x2048 .f32) (hm : m.IsWhole)
    (x : Vec F S64x2048 .f32) (o : ℕ) (inb' : ∀ a, (![0, o] : Fin 2 → ℕ) a + (![64, 128] : Fin 2 → ℕ) a ≤ S64x2048.size a) :
    View.readAt (Elt F) m.view (Rect.unit (s := S64x2048) ![0, o] ![64, 128] inb').toLoadRect (hm.unread x) = accCols x o :=
  readAt_accCols m hm x o inb'

/-- A load of a whole memref reads its contents. -/
theorem readAt_whole2 {sig : RefSig} {κ : Kind} {sp : Space} {a b : ℕ} {e : EltTy} (m : Memref sig κ sp ⟨2, ![a, b]⟩ e) (hm : m.IsWhole)
    (x : (⟨2, ![a, b]⟩ : Shape).Idx → Elt F e)
    (inb' : ∀ i, (![0, 0] : Fin 2 → ℕ) i + (⟨2, ![a, b]⟩ : Shape).size i ≤ (⟨2, ![a, b]⟩ : Shape).size i) :
    View.readAt (Elt F) m.view (Rect.unit (s := ⟨2, ![a, b]⟩) ![0, 0] (⟨2, ![a, b]⟩ : Shape).size inb').toLoadRect (hm.unread x) = x := by
  funext j
  refine (hm.readAt_unread x _ _).trans (congrArg x ?_)
  exact (idx_unit2 inb' j (j 0) (j 1) (Nat.zero_add _).symm (Nat.zero_add _).symm).trans (by funext i; fin_cases i <;> rfl)

/-- A load of a whole array with a leading unit axis reads its contents. -/
theorem readAt_whole3 {sig : RefSig} {κ : Kind} {sp : Space} {a b : ℕ} {e : EltTy} (m : Memref sig κ sp ⟨3, ![1, a, b]⟩ e) (hm : m.IsWhole)
    (x : (⟨3, ![1, a, b]⟩ : Shape).Idx → Elt F e)
    (inb' : ∀ i, (![0, 0, 0] : Fin 3 → ℕ) i + (⟨3, ![1, a, b]⟩ : Shape).size i ≤ (⟨3, ![1, a, b]⟩ : Shape).size i) :
    View.readAt (Elt F) m.view (Rect.unit (s := ⟨3, ![1, a, b]⟩) ![0, 0, 0] (⟨3, ![1, a, b]⟩ : Shape).size inb').toLoadRect (hm.unread x) = x := by
  funext j
  exact (hm.readAt_unread x _ _).trans (congrArg x (emb_whole3 inb' j))

/-- A load of a scratch filled whole reads the fill. -/
theorem readCov_whole2 {sig : RefSig} {κ : Kind} {sp : Space} {a b : ℕ} {e : EltTy} (v : View sig κ sp ⟨2, ![a, b]⟩ e)
    (inb inb' : ∀ i, (![0, 0] : Fin 2 → ℕ) i + (⟨2, ![a, b]⟩ : Shape).size i ≤ (⟨2, ![a, b]⟩ : Shape).size i)
    (w : (⟨2, ![a, b]⟩ : Shape).Idx → Elt F e) :
    v.readCov (Val := Elt F) [⟨Rect.unit (s := ⟨2, ![a, b]⟩) ![0, 0] (⟨2, ![a, b]⟩ : Shape).size inb, w⟩]
      (Rect.unit (s := ⟨2, ![a, b]⟩) ![0, 0] (⟨2, ![a, b]⟩ : Shape).size inb').toLoadRect = w := by
  refine (View.readCov_fill (Val := Elt F) v inb w [] (Rect.unit (s := ⟨2, ![a, b]⟩) ![0, 0] (⟨2, ![a, b]⟩ : Shape).size inb')
    (fun i => by fin_cases i <;> rfl)).trans ?_
  funext j
  refine congrArg w ?_
  exact (idx_unit2 inb' j (j 0) (j 1) (Nat.zero_add _).symm (Nat.zero_add _).symm).trans (by funext i; fin_cases i <;> rfl)

/-! ### One dequantised tile and its product -/

/-- Each group of 128 rows lies within the gate/up columns. -/
theorem slices_gu (g : Fin 16) : S2048x256.Slices ![128 * g.val, 0] S128x256 := by fin_cases g <;> decide

/-- Each group of 128 rows lies within the down columns. -/
theorem slices_dn (g : Fin 8) : S1024x256.Slices ![128 * g.val, 0] S128x256 := by fin_cases g <;> decide

/-- Two scale rows spread over a group: the first over columns 0..127, the second over columns 128..255. -/
def scPair (a b : Vec F S1x128 .f32) : FVec F S128x256 .bf16 :=
  concatenate S128x256 1
    [⟨S128x128, truncf .bf16 (broadcastTo S128x128 (shapeCast S1x128 a shapeCasts_S1x128_S1x128) broadcasts_S1x128_S128x128) bitsLt_bf16_f32⟩,
     ⟨S128x128, truncf .bf16 (broadcastTo S128x128 (shapeCast S1x128 b shapeCasts_S1x128_S1x128) broadcasts_S1x128_S128x128) bitsLt_bf16_f32⟩]
    concatenates_S128x128_S128x128_S128x256_d1

/-- The scaled codes of group `g` of a gate/up tile. -/
def guPart (q : FVec F S2048x256 .bf16) (s : Fin 16 → Fin 2 → Vec F S1x128 .f32) (g : Fin 16) : FVec F S128x256 .bf16 :=
  mulf (extractStridedSlice S128x256 ![128 * g.val, 0] q (slices_gu g)) (scPair (s g 0) (s g 1))

/-- The scaled codes of group `g` of a down tile. -/
def dnPart (q : FVec F S1024x256 .bf16) (s : Fin 8 → Fin 2 → Vec F S1x128 .f32) (g : Fin 8) : FVec F S128x256 .bf16 :=
  mulf (extractStridedSlice S128x256 ![128 * g.val, 0] q (slices_dn g)) (scPair (s g 0) (s g 1))

/-- The product of the activations with a gate/up tile. -/
def guDot (xb : FVec F S64x2048 .bf16) (q : FVec F S2048x256 .bf16) (s : Fin 16 → Fin 2 → Vec F S1x128 .f32) : FVec F S64x256 .f32 :=
  matmul dot_S64x2048_S2048x256_S64x256_1_0_0_1_n_n none xb
    (concatenate S2048x256 0 [⟨S128x256, guPart q s 0⟩, ⟨S128x256, guPart q s 1⟩, ⟨S128x256, guPart q s 2⟩, ⟨S128x256, guPart q s 3⟩, ⟨S128x256, guPart q s 4⟩, ⟨S128x256, guPart q s 5⟩, ⟨S128x256, guPart q s 6⟩, ⟨S128x256, guPart q s 7⟩, ⟨S128x256, guPart q s 8⟩, ⟨S128x256, guPart q s 9⟩, ⟨S128x256, guPart q s 10⟩, ⟨S128x256, guPart q s 11⟩, ⟨S128x256, guPart q s 12⟩, ⟨S128x256, guPart q s 13⟩, ⟨S128x256, guPart q s 14⟩, ⟨S128x256, guPart q s 15⟩]
      concatenates_S128x256_S128x256_S128x256_S128x256_S128x256_S128x256_S128x256_S128x256_S128x256_S128x256_S128x256_S128x256_S128x256_S128x256_S128x256_S128x256_S2048x256_d0)
    (constant S64x256 .f32 0x00000000#32)

/-- The product of the hidden activations with a down tile. -/
def dnDot (h : FVec F S64x1024 .bf16) (q : FVec F S1024x256 .bf16) (s : Fin 8 → Fin 2 → Vec F S1x128 .f32) : FVec F S64x256 .f32 :=
  matmul dot_S64x1024_S1024x256_S64x256_1_0_0_1_n_n none h
    (concatenate S1024x256 0 [⟨S128x256, dnPart q s 0⟩, ⟨S128x256, dnPart q s 1⟩, ⟨S128x256, dnPart q s 2⟩, ⟨S128x256, dnPart q s 3⟩, ⟨S128x256, dnPart q s 4⟩, ⟨S128x256, dnPart q s 5⟩, ⟨S128x256, dnPart q s 6⟩, ⟨S128x256, dnPart q s 7⟩]
      concatenates_S128x256_S128x256_S128x256_S128x256_S128x256_S128x256_S128x256_S128x256_S1024x256_d0)
    (constant S64x256 .f32 0x00000000#32)

/-- The codes of 256 packed gate/up columns: the low nibbles at parity 0, the high ones at parity 1. -/
def guCodes (x2 : Vec F S1x2048x1024 .i8) (c0 : ℕ) (par : Fin 2) : FVec F S2048x256 .bf16 :=
  match par with
  | 0 => k0_pay43 (guCols x2 c0)
  | 1 => k0_pay42 (guCols x2 c0)

/-- The codes of 256 packed down columns. -/
def dnCodes (x4 : Vec F S1x1024x1024 .i8) (c0 : ℕ) (par : Fin 2) : FVec F S1024x256 .bf16 :=
  match par with
  | 0 => k0_pay205 (dnCols x4 c0)
  | 1 => k0_pay204 (dnCols x4 c0)

/-- The gate/up product of block column `m` (256 packed columns from `256 m`), parity `par`. -/
def guOut (xb : FVec F S64x2048 .bf16) (x2 : Vec F S1x2048x1024 .i8) (sc : Vec F S192x256 .f32) (m : Fin 4) (par : Fin 2) : FVec F S64x256 .f32 :=
  guDot xb (guCodes x2 (256 * m.val) par) fun g j => scRow sc ((2 * m.val + j.val) * 16 + g.val) (par.val * 128)

/-- The down product of block column `m`, parity `par`. -/
def dnOut (h : FVec F S64x1024 .bf16) (x4 : Vec F S1x1024x1024 .i8) (sc : Vec F S192x256 .f32) (m : Fin 4) (par : Fin 2) : FVec F S64x256 .f32 :=
  dnDot h (dnCodes x4 (256 * m.val) par) fun g j => scRow sc (128 + (2 * m.val + j.val) * 8 + g.val) (par.val * 128)

/-- Each half of the columns lies within a product. -/
theorem slices_half (j : Fin 2) : S64x256.Slices ![0, 128 * j.val] S64x128 := by fin_cases j <;> decide

/-- Half `j` of the columns of a product. -/
def halfCols (o : FVec F S64x256 .f32) (j : Fin 2) : FVec F S64x128 .f32 :=
  extractStridedSlice S64x128 ![0, 128 * j.val] o (slices_half j)

/-- `silu g * u` on one half of a product. -/
def hHalf (g u : FVec F S64x256 .f32) (j : Fin 2) : FVec F S64x128 .bf16 :=
  truncf .bf16 (mulf (mulf (halfCols g j) (logistic (halfCols g j))) (halfCols u j)) bitsLt_bf16_f32

/-- Row block `2 m + j` of the hidden scratch: the even columns, then the odd ones. -/
def hBlock (xb : FVec F S64x2048 .bf16) (x2 : Vec F S1x2048x1024 .i8) (sc : Vec F S192x256 .f32) (m j : Fin 2) : FVec F S64x256 .bf16 :=
  shapeCast S64x256 (concatenate S64x256 1
    [⟨S64x128, hHalf (guOut xb x2 sc ⟨m.val, by omega⟩ 0) (guOut xb x2 sc ⟨2 + m.val, by omega⟩ 0) j⟩,
     ⟨S64x128, hHalf (guOut xb x2 sc ⟨m.val, by omega⟩ 1) (guOut xb x2 sc ⟨2 + m.val, by omega⟩ 1) j⟩]
    concatenates_S64x128_S64x128_S64x256_d1) shapeCasts_S64x256_S64x256

/-- The hidden scratch, assembled from its four row blocks. -/
def hScratch (xb : FVec F S64x2048 .bf16) (x2 : Vec F S1x2048x1024 .i8) (sc : Vec F S192x256 .f32) : Vec F S256x256 .bf16 :=
  fun y => hBlock xb x2 sc ⟨(y 0).val / 128, by have := (y 0).isLt; change (y 0).val < 256 at this; omega⟩ ⟨(y 0).val / 64 % 2, by omega⟩
    (ix2 ⟨(y 0).val % 64, Nat.mod_lt _ (by norm_num)⟩ (y 1))

/-- The hidden activations in natural column order. -/
def hNat (xb : FVec F S64x2048 .bf16) (x2 : Vec F S1x2048x1024 .i8) (sc : Vec F S192x256 .f32) : FVec F S64x1024 .bf16 :=
  k0_pay201 (hScratch xb x2 sc)

/-- What 128 columns of the accumulator become: the gate times half of a down product added. -/
def accPiece (gate : FVec F S64x1 .f32) (o : FVec F S64x256 .f32) (j : Fin 2) (acc : Vec F S64x128 .f32) : FVec F S64x128 .f32 :=
  shapeCast S64x128 (addf acc (mulf (broadcastTo S64x128 gate broadcasts_S64x1_S64x128) (halfCols o j))) shapeCasts_S64x128_S64x128

/-- Column block `k` (128 columns) of the new accumulator, `acc` the old contents of that block. -/
def accBlock (gate : FVec F S64x1 .f32) (h : FVec F S64x1024 .bf16) (x4 : Vec F S1x1024x1024 .i8) (sc : Vec F S192x256 .f32)
    (acc : Vec F S64x2048 .f32) (k : Fin 16) : FVec F S64x128 .f32 :=
  accPiece gate (dnOut h x4 sc ⟨k.val / 4, by omega⟩ ⟨k.val % 2, by omega⟩) ⟨k.val / 2 % 2, by omega⟩ (accCols acc (128 * k.val))

/-- A 64 × 2048 buffer assembled from sixteen column blocks. -/
def ofBlocks (P : Fin 16 → FVec F S64x128 .f32) : Vec F S64x2048 .f32 :=
  fun y => P ⟨(y 1).val / 128, by have := (y 1).isLt; change (y 1).val < 2048 at this; omega⟩ (ix2 (y 0) ⟨(y 1).val % 128, Nat.mod_lt _ (by norm_num)⟩)

/-- The accumulator after a point. -/
def accNew (i : grid0.Coords) (xb : FVec F S64x2048 .bf16) (gates : Vec F S64x32 .f32) (acc : Vec F S64x2048 .f32)
    (x2 : Vec F S1x2048x1024 .i8) (x3 : Vec F S1x16x2048 .bf16) (x4 : Vec F S1x1024x1024 .i8) (x5 : Vec F S1x8x2048 .bf16) : Vec F S64x2048 .f32 :=
  ofBlocks (accBlock (k0_pay202 (BitVec.ofNat 32 ↑(i 0)) gates) (hNat xb x2 (k0_pay40 x3 x5)) x4 (k0_pay40 x3 x5) acc)

/-- An array put together from column blocks holds each block at its window. -/
theorem ofBlocks_emb (P : Fin 16 → FVec F S64x128 .f32) (k : Fin 16) (o : ℕ) (ho : o = 128 * k.val)
    (inb : ∀ a, (![0, o] : Fin 2 → ℕ) a + S64x128.size a ≤ S64x2048.size a) (x : S64x128.Idx) :
    P k x = ofBlocks P ((Rect.unit (s := S64x2048) ![0, o] S64x128.size inb).emb x) := by
  subst ho
  have x1 : (x 1).val < 128 := (x 1).isLt
  have hk : (128 * k.val + (x 1).val) / 128 = k.val := by omega
  have hm : (128 * k.val + (x 1).val) % 128 = (x 1).val := by omega
  have e : (Rect.unit (s := S64x2048) ![0, 128 * k.val] S64x128.size inb).emb x = ix2 (x 0) ⟨128 * k.val + (x 1).val, by omega⟩ :=
    idx_unit2 inb x _ _ (Nat.zero_add _).symm rfl
  rw [e]
  have h1 : (⟨(128 * k.val + (x 1).val) / 128, by omega⟩ : Fin 16) = k := Fin.ext hk
  have h2 : (ix2 (x 0) ⟨(128 * k.val + (x 1).val) % 128, Nat.mod_lt _ (by norm_num)⟩ : S64x128.Idx) = x := by
    funext a; fin_cases a
    · rfl
    · exact Fin.ext hm
  show P k x = P ⟨(128 * k.val + (x 1).val) / 128, _⟩ (ix2 (x 0) ⟨(128 * k.val + (x 1).val) % 128, _⟩)
  rw [h2, h1]

/-- The hidden scratch holds each hidden block at its window. -/
theorem hScratch_emb (xb : FVec F S64x2048 .bf16) (x2 : Vec F S1x2048x1024 .i8) (sc : Vec F S192x256 .f32) (m j : Fin 2) (o : ℕ)
    (ho : o = 128 * m.val + 64 * j.val) (inb : ∀ a, (![o, 0] : Fin 2 → ℕ) a + S64x256.size a ≤ S256x256.size a) (x : S64x256.Idx) :
    hBlock xb x2 sc m j x = hScratch xb x2 sc ((Rect.unit (s := S256x256) ![o, 0] S64x256.size inb).emb x) := by
  subst ho
  have x0 : (x 0).val < 64 := (x 0).isLt
  have e : (Rect.unit (s := S256x256) ![128 * m.val + 64 * j.val, 0] S64x256.size inb).emb x
      = ix2 ⟨128 * m.val + 64 * j.val + (x 0).val, by omega⟩ (x 1) :=
    idx_unit2 inb x _ _ rfl (Nat.zero_add _).symm
  rw [e]
  have hx : (128 * m.val + 64 * j.val + (x 0).val) % 64 = (x 0).val := by omega
  have h1 : (⟨(128 * m.val + 64 * j.val + (x 0).val) / 128, by omega⟩ : Fin 2) = m := Fin.ext (by show _ / _ = _; omega)
  have h2 : (⟨(128 * m.val + 64 * j.val + (x 0).val) / 64 % 2, by omega⟩ : Fin 2) = j := Fin.ext (by show _ % _ = _; omega)
  have h3 : (ix2 ⟨(128 * m.val + 64 * j.val + (x 0).val) % 64, Nat.mod_lt _ (by norm_num)⟩ (x 1) : S64x256.Idx) = x := by
    funext a; fin_cases a
    · exact Fin.ext hx
    · rfl
  show _ = hBlock xb x2 sc ⟨(128 * m.val + 64 * j.val + (x 0).val) / 128, _⟩ ⟨(128 * m.val + 64 * j.val + (x 0).val) / 64 % 2, _⟩
    (ix2 ⟨(128 * m.val + 64 * j.val + (x 0).val) % 64, _⟩ (x 1))
  rw [h3, h2, h1]

/-- An index between the bounds of a window belongs to it. -/
theorem mem_unit2 {m n a b : ℕ} {size : Fin 2 → ℕ} (inb : ∀ i, (![a, b] : Fin 2 → ℕ) i + size i ≤ (⟨2, ![m, n]⟩ : Shape).size i)
    (p : Fin m) (q : Fin n) (h0 : a ≤ p.val) (h0' : p.val < a + size 0) (h1 : b ≤ q.val) (h1' : q.val < b + size 1) :
    ix2 p q ∈ (Rect.unit (s := ⟨2, ![m, n]⟩) ![a, b] size inb).set := by
  rw [← Rect.map_emb_univ]
  refine Finset.mem_map.2 ⟨fun i => ⟨(ix2 p q i).val - (![a, b] : Fin 2 → ℕ) i, ?_⟩, Finset.mem_univ _, ?_⟩
  · fin_cases i
    · show p.val - a < size 0; omega
    · show q.val - b < size 1; omega
  · exact idx_unit2 inb _ p q (by show p.val = a + (p.val - a); omega) (by show q.val = b + (q.val - b); omega)

/-- Four row blocks stored one above the other, read back whole: the hidden scratch. -/
theorem readCov_hScratch {sig : RefSig} {κ : Kind} {sp : Space} (v : View sig κ sp S256x256 .bf16) (xb : FVec F S64x2048 .bf16)
    (x2 : Vec F S1x2048x1024 .i8) (sc : Vec F S192x256 .f32) (i0 i1 i2 i3 inb) :
    v.readCov (Val := Elt F)
      [⟨Rect.unit (s := S256x256) ![192, 0] S64x256.size i3, hBlock xb x2 sc 1 1⟩,
       ⟨Rect.unit (s := S256x256) ![128, 0] S64x256.size i2, hBlock xb x2 sc 1 0⟩,
       ⟨Rect.unit (s := S256x256) ![64, 0] S64x256.size i1, hBlock xb x2 sc 0 1⟩,
       ⟨Rect.unit (s := S256x256) ![0, 0] S64x256.size i0, hBlock xb x2 sc 0 0⟩]
      (Rect.unit (s := S256x256) ![0, 0] S256x256.size inb).toLoadRect = hScratch xb x2 sc := by
  rw [View.readCov_eq_canon']
  funext y
  have hy : (Rect.unit (s := S256x256) ![0, 0] S256x256.size inb).toLoadRect.idx y = y :=
    (idx_unit2 inb y (y 0) (y 1) (Nat.zero_add _).symm (Nat.zero_add _).symm).trans (by funext i; fin_cases i <;> rfl)
  rw [hy]
  refine View.canon_apply_of_pieces (hScratch xb x2 sc) _ (View.PiecesOf.mem ?_) y ?_
  · refine ⟨?_, ?_, ?_, ?_, trivial⟩
    · exact fun x => hScratch_emb xb x2 sc 1 1 192 rfl i3 x
    · exact fun x => hScratch_emb xb x2 sc 1 0 128 rfl i2 x
    · exact fun x => hScratch_emb xb x2 sc 0 1 64 rfl i1 x
    · exact fun x => hScratch_emb xb x2 sc 0 0 0 rfl i0 x
  · exact View.cover_of_tiledL (s := S256x256) _ S64x256.size (by sl_kernel_rfl) y

/-- Sixteen column blocks stored over anything, read as one buffer. -/
theorem canon_ofBlocks (P : Fin 16 → FVec F S64x128 .f32) (L : List (View.Piece (Elt F) S64x2048 .f32))
    (i0 i1 i2 i3 i4 i5 i6 i7 i8 i9 i10 i11 i12 i13 i14 i15) :
    View.canon ([⟨Rect.unit (s := S64x2048) ![0, 1920] S64x128.size i15, P 15⟩,
       ⟨Rect.unit (s := S64x2048) ![0, 1792] S64x128.size i14, P 14⟩,
       ⟨Rect.unit (s := S64x2048) ![0, 1664] S64x128.size i13, P 13⟩,
       ⟨Rect.unit (s := S64x2048) ![0, 1536] S64x128.size i12, P 12⟩,
       ⟨Rect.unit (s := S64x2048) ![0, 1408] S64x128.size i11, P 11⟩,
       ⟨Rect.unit (s := S64x2048) ![0, 1280] S64x128.size i10, P 10⟩,
       ⟨Rect.unit (s := S64x2048) ![0, 1152] S64x128.size i9, P 9⟩,
       ⟨Rect.unit (s := S64x2048) ![0, 1024] S64x128.size i8, P 8⟩,
       ⟨Rect.unit (s := S64x2048) ![0, 896] S64x128.size i7, P 7⟩,
       ⟨Rect.unit (s := S64x2048) ![0, 768] S64x128.size i6, P 6⟩,
       ⟨Rect.unit (s := S64x2048) ![0, 640] S64x128.size i5, P 5⟩,
       ⟨Rect.unit (s := S64x2048) ![0, 512] S64x128.size i4, P 4⟩,
       ⟨Rect.unit (s := S64x2048) ![0, 384] S64x128.size i3, P 3⟩,
       ⟨Rect.unit (s := S64x2048) ![0, 256] S64x128.size i2, P 2⟩,
       ⟨Rect.unit (s := S64x2048) ![0, 128] S64x128.size i1, P 1⟩,
       ⟨Rect.unit (s := S64x2048) ![0, 0] S64x128.size i0, P 0⟩] ++ L)
      = ofBlocks P := by
  funext y
  refine View.canon_append_of_piecesOf (ofBlocks P) L _ ?_ y ?_
  · refine ⟨ofBlocks_emb P 15 _ rfl i15, ofBlocks_emb P 14 _ rfl i14, ofBlocks_emb P 13 _ rfl i13, ofBlocks_emb P 12 _ rfl i12, ofBlocks_emb P 11 _ rfl i11, ofBlocks_emb P 10 _ rfl i10, ofBlocks_emb P 9 _ rfl i9, ofBlocks_emb P 8 _ rfl i8, ofBlocks_emb P 7 _ rfl i7, ofBlocks_emb P 6 _ rfl i6, ofBlocks_emb P 5 _ rfl i5, ofBlocks_emb P 4 _ rfl i4, ofBlocks_emb P 3 _ rfl i3, ofBlocks_emb P 2 _ rfl i2, ofBlocks_emb P 1 _ rfl i1, ofBlocks_emb P 0 _ rfl i0, trivial⟩
  · exact View.cover_of_tiledL (s := S64x2048) _ S64x128.size (by sl_kernel_rfl) y

/-- Column block `b` (256 columns) of the result: the accumulator's block through the column permutation. -/
def outBlock (acc : Vec F S64x2048 .f32) (b : Fin 8) : FVec F S64x256 .f32 := k0_pay3 k0_pay33 (accCols2 acc (256 * b.val))

/-- The result written at the last point. -/
def outNew (acc : Vec F S64x2048 .f32) : Vec F S64x2048 .f32 :=
  fun y => outBlock acc ⟨(y 1).val / 256, by have := (y 1).isLt; change (y 1).val < 2048 at this; omega⟩ (ix2 (y 0) ⟨(y 1).val % 256, Nat.mod_lt _ (by norm_num)⟩)

/-- The output holds each output block at its window. -/
theorem outNew_emb (acc : Vec F S64x2048 .f32) (b : Fin 8) (o : ℕ) (ho : o = 256 * b.val)
    (inb : ∀ a, (![0, o] : Fin 2 → ℕ) a + S64x256.size a ≤ S64x2048.size a) (x : S64x256.Idx) :
    outBlock acc b x = outNew acc ((Rect.unit (s := S64x2048) ![0, o] S64x256.size inb).emb x) := by
  subst ho
  have x1 : (x 1).val < 256 := (x 1).isLt
  have hk : (256 * b.val + (x 1).val) / 256 = b.val := by omega
  have hm : (256 * b.val + (x 1).val) % 256 = (x 1).val := by omega
  have e : (Rect.unit (s := S64x2048) ![0, 256 * b.val] S64x256.size inb).emb x = ix2 (x 0) ⟨256 * b.val + (x 1).val, by omega⟩ :=
    idx_unit2 inb x _ _ (Nat.zero_add _).symm rfl
  rw [e]
  have h1 : (⟨(256 * b.val + (x 1).val) / 256, by omega⟩ : Fin 8) = b := Fin.ext hk
  have h2 : (ix2 (x 0) ⟨(256 * b.val + (x 1).val) % 256, Nat.mod_lt _ (by norm_num)⟩ : S64x256.Idx) = x := by
    funext a; fin_cases a
    · rfl
    · exact Fin.ext hm
  show outBlock acc b x = outBlock acc ⟨(256 * b.val + (x 1).val) / 256, _⟩ (ix2 (x 0) ⟨(256 * b.val + (x 1).val) % 256, _⟩)
  rw [h2, h1]

/-- Eight column blocks of the result, read as one buffer. -/
theorem canon_outNew (acc : Vec F S64x2048 .f32)
    (i0 i1 i2 i3 i4 i5 i6 i7) :
    View.canon (Val := Elt F) [⟨Rect.unit (s := S64x2048) ![0, 1792] S64x256.size i7, outBlock acc 7⟩,
       ⟨Rect.unit (s := S64x2048) ![0, 1536] S64x256.size i6, outBlock acc 6⟩,
       ⟨Rect.unit (s := S64x2048) ![0, 1280] S64x256.size i5, outBlock acc 5⟩,
       ⟨Rect.unit (s := S64x2048) ![0, 1024] S64x256.size i4, outBlock acc 4⟩,
       ⟨Rect.unit (s := S64x2048) ![0, 768] S64x256.size i3, outBlock acc 3⟩,
       ⟨Rect.unit (s := S64x2048) ![0, 512] S64x256.size i2, outBlock acc 2⟩,
       ⟨Rect.unit (s := S64x2048) ![0, 256] S64x256.size i1, outBlock acc 1⟩,
       ⟨Rect.unit (s := S64x2048) ![0, 0] S64x256.size i0, outBlock acc 0⟩]
      = outNew acc := by
  funext y
  refine View.canon_apply_of_pieces (outNew acc) _ (View.PiecesOf.mem ?_) y ?_
  · refine ⟨outNew_emb acc 7 _ rfl i7, outNew_emb acc 6 _ rfl i6, outNew_emb acc 5 _ rfl i5, outNew_emb acc 4 _ rfl i4, outNew_emb acc 3 _ rfl i3, outNew_emb acc 2 _ rfl i2, outNew_emb acc 1 _ rfl i1, outNew_emb acc 0 _ rfl i0, trivial⟩
  · exact View.cover_of_tiledL (s := S64x2048) _ S64x256.size (by sl_kernel_rfl) y

/-- A load of 256 columns of a buffer whose stores leave `G`. -/
theorem readCov_accCols2 {sig : RefSig} {κ : Kind} {sp : Space} (v : View sig κ sp S64x2048 .f32) (L : List (View.Piece (Elt F) S64x2048 .f32))
    (G : Vec F S64x2048 .f32) (hL : View.canon L = G) (o : ℕ) (inb : ∀ a, (![0, o] : Fin 2 → ℕ) a + S64x256.size a ≤ S64x2048.size a) :
    v.readCov L (Rect.unit (s := S64x2048) ![0, o] S64x256.size inb).toLoadRect = accCols2 G o := by
  rw [View.readCov_eq_canon', hL]
  funext j
  have hc : o + 256 ≤ 2048 := inb 1
  have j1 : (j 1).val < 256 := (j 1).isLt
  exact congrArg G (idx_unit2 inb j (j 0) _ (Nat.zero_add _).symm (by show (o + (j 1).val) % 2048 = _; omega))

/-- A load of 128 columns of a buffer filled whole. -/
theorem readCov_fillCols {sig : RefSig} {κ : Kind} {sp : Space} (v : View sig κ sp S64x2048 .f32) (Z : Vec F S64x2048 .f32) (i0) (o : ℕ)
    (inb : ∀ a, (![0, o] : Fin 2 → ℕ) a + S64x128.size a ≤ S64x2048.size a) :
    v.readCov (Val := Elt F) [⟨Rect.unit (s := S64x2048) ![0, 0] S64x2048.size i0, Z⟩]
      (Rect.unit (s := S64x2048) ![0, o] S64x128.size inb).toLoadRect = accCols Z o := by
  refine (View.readCov_fill (Val := Elt F) v i0 Z [] (Rect.unit (s := S64x2048) ![0, o] S64x128.size inb)
    (fun i => by fin_cases i <;> rfl)).trans ?_
  funext j
  have hc : o + 128 ≤ 2048 := inb 1
  have j1 : (j 1).val < 128 := (j 1).isLt
  exact congrArg Z (idx_unit2 inb j (j 0) _ (Nat.zero_add _).symm (by show (o + (j 1).val) % 2048 = _; omega))

/-- A load of columns after a store of the whole array, with its size written out. -/
theorem readCov_fillCols' {sig : RefSig} {κ : Kind} {sp : Space} (v : View sig κ sp S64x2048 .f32) (Z : Vec F S64x2048 .f32) (i0) (o : ℕ)
    (inb : ∀ a, (![0, o] : Fin 2 → ℕ) a + (![64, 128] : Fin 2 → ℕ) a ≤ S64x2048.size a) :
    v.readCov (Val := Elt F) [⟨Rect.unit (s := S64x2048) ![0, 0] S64x2048.size i0, Z⟩]
      (Rect.unit (s := S64x2048) ![0, o] ![64, 128] inb).toLoadRect = accCols Z o :=
  readCov_fillCols v Z i0 o inb

/-- One store of the whole buffer leaves what it stores. -/
theorem canon_whole2 {a b : ℕ} {e : EltTy} (inb : ∀ i, (![0, 0] : Fin 2 → ℕ) i + (⟨2, ![a, b]⟩ : Shape).size i ≤ (⟨2, ![a, b]⟩ : Shape).size i)
    (w : (⟨2, ![a, b]⟩ : Shape).Idx → Elt F e) :
    View.canon (Val := Elt F) [⟨Rect.unit (s := ⟨2, ![a, b]⟩) ![0, 0] (⟨2, ![a, b]⟩ : Shape).size inb, w⟩] = w :=
  View.canon_cons_unit_lit inb w [] (fun i => by fin_cases i <;> rfl)

/-! ### The router -/

/-- The logits not yet taken, the taken ones at minus infinity. -/
def cand (l : FVec F S64x32 .f32) (taken : IVec S64x32 1) : FVec F S64x32 .f32 :=
  select taken (broadcast S64x32 (Scalar.ofBits .f32 0xFF800000#32)) l

/-- The largest logit not yet taken. -/
def best (l : FVec F S64x32 .f32) (taken : IVec S64x32 1) : FVec F S64x1 .f32 :=
  shapeCast S64x1 (multiReduction .maximumf [1] S64 (cand l taken) 0xFF800000#32 reduces_S64x32_S64 (.inl rfl) rfl) shapeCasts_S64_S64x1

/-- The first position that holds it, as a one-hot row. -/
def pick (l : FVec F S64x32 .f32) (taken : IVec S64x32 1) : IVec S64x32 1 :=
  cmpi .eq (iota .tc S64x32 32 [1] iota_S64x32_d1_w32) (broadcastTo S64x32 (shapeCast S64x1
    (multiReductionI .minsi [1] S64 (select (andi (cmpf .oeq (cand l taken) (broadcastTo S64x32 (best l taken) broadcasts_S64x1_S64x32))
      (xori taken (constantI S64x32 1 1#1))) (iota .tc S64x32 32 [1] iota_S64x32_d1_w32) (broadcast S64x32 32#32))
      2147483647#32 reduces_S64x32_S64 rfl) shapeCasts_S64_S64x1) broadcasts_S64x1_S64x32)

/-- The positions taken after `r` rounds. -/
def taken (l : FVec F S64x32 .f32) : ℕ → IVec S64x32 1
  | 0 => broadcast S64x32 0#1
  | r + 1 => ori (taken l r) (pick l (taken l r))

/-- The exponential of the logit of rank `r`, shifted by the largest. -/
def expRank (l : FVec F S64x32 .f32) (r : ℕ) : FVec F S64x1 .f32 := exp (subf (best l (taken l r)) (best l (taken l 0)))

/-- The sum of the four exponentials. -/
def denom (l : FVec F S64x32 .f32) : FVec F S64x1 .f32 := addf (addf (addf (expRank l 0) (expRank l 1)) (expRank l 2)) (expRank l 3)

/-- The weight of rank `r`, placed on the column of that rank. -/
def placed (l : FVec F S64x32 .f32) (r : ℕ) : FVec F S64x32 .f32 :=
  select (pick l (taken l r)) (broadcastTo S64x32 (shapeCast S64x1 (divf (expRank l r) (denom l)) shapeCasts_S64x1_S64x1) broadcasts_S64x1_S64x32)
    (broadcast S64x32 (Scalar.ofBits .f32 0x00000000#32))

/-- The routing weights. -/
def gatesOf (l : FVec F S64x32 .f32) : Vec F S64x32 .f32 :=
  shapeCast S64x32 (addf (addf (addf (addf (broadcast S64x32 (Scalar.ofBits .f32 0x00000000#32)) (placed l 0)) (placed l 1)) (placed l 2)) (placed l 3))
    shapeCasts_S64x32_S64x32

end Cert.Moe

end
-- ==== Proof.Codes.lean ====
module

public import proofs.«01_k».proof.Proof.Mirror
public import Idealize.ShloMosaic.Lib.BitcastFour

/-!
The signed four-bit codes: what the kernel's masked and shifted words hold, and what the reference unpacks.
-/

@[expose] public section

set_option maxRecDepth 16384

noncomputable section

namespace Cert.Moe

open Idealize.ShloMosaic Idealize.ShloMosaic.Tactic Cert.KernelIdeal Cert.KernelIdeal.Gen

/-- The signed four-bit number in a byte: its low half at parity 0, its high half at parity 1. -/
def nib (b : BitVec 8) (par : Fin 2) : ℤ := if par = 0 then ((b <<< 4).sshiftRight 4).toInt else (b.sshiftRight 4).toInt

/-- A byte masked to its high half reads as sixteen times that signed half. -/
theorem nib_hi : ∀ b : BitVec 8, (b &&& 0xF0#8).toInt = 16 * nib b 1 := by decide +kernel

/-- A byte shifted up by four reads as sixteen times its signed low half. -/
theorem nib_lo : ∀ b : BitVec 8, (b <<< 4).toInt = 16 * nib b 0 := by decide +kernel

/-- The reference's low half: masked, brought into the signed range, narrowed and widened. -/
theorem nib_ref_lo : ∀ b : BitVec 8,
    ((Scalar.select (IntOp.cmpi .sge (IntOp.andi (b.setWidth 32) 15#32) 8#32)
      (IntOp.subi (IntOp.andi (b.setWidth 32) 15#32) 16#32) (IntOp.andi (b.setWidth 32) 15#32)).setWidth 8).toInt = nib b 0 := by
  decide +kernel

/-- The reference's high half. -/
theorem nib_ref_hi : ∀ b : BitVec 8,
    ((Scalar.select (IntOp.cmpi .sge (IntOp.andi (IntOp.shrsi .host (b.setWidth 32) 4#32) 15#32) 8#32)
      (IntOp.subi (IntOp.andi (IntOp.shrsi .host (b.setWidth 32) 4#32) 15#32) 16#32) (IntOp.andi (IntOp.shrsi .host (b.setWidth 32) 4#32) 15#32)).setWidth 8).toInt
      = nib b 1 := by
  decide +kernel

/-- Extending a signed byte to a word keeps its value. -/
theorem toInt_signExtend_8_32 (b : BitVec 8) : (b.signExtend 32).toInt = b.toInt :=
  BitVec.toInt_signExtend_of_le (by norm_num)

/-- One bit of a column of bytes read as words. -/
theorem words_bit {R r n : ℕ} (x : (⟨2, ![R, n]⟩ : Shape).Idx → BitVec 8) (h : (⟨2, ![R, n]⟩ : Shape).Bitcasts 8 ⟨2, ![r, n]⟩ 32)
    (a : Fin r) (l : Fin n) (q : ℕ) (hq : q < 32) (p : Fin R) (hp : p.val = 4 * a.val + q / 8) :
    (bitcast ⟨2, ![r, n]⟩ 32 x h (ix2 a l)).getLsbD q = (x (ix2 p l)).getLsbD (q % 8) := by
  have e := bitcast_8_32_getLsbD_ix2 x h a l q hq p hp
  have e1 : (ValueIdx.ix2 a l : (⟨2, ![r, n]⟩ : Shape).Idx) = ix2 a l := by funext i; fin_cases i <;> rfl
  have e2 : (ValueIdx.ix2 p l : (⟨2, ![R, n]⟩ : Shape).Idx) = ix2 p l := by funext i; fin_cases i <;> rfl
  rw [e1, e2] at e
  exact e

/-- One bit of a column of words read as bytes. -/
theorem bytes_bit {R r n : ℕ} (y : (⟨2, ![r, n]⟩ : Shape).Idx → BitVec 32) (h : (⟨2, ![r, n]⟩ : Shape).Bitcasts 32 ⟨2, ![R, n]⟩ 8)
    (p : Fin R) (l : Fin n) (q : ℕ) (hq : q < 8) (a : Fin r) (ha : a.val = p.val / 4) :
    (bitcast ⟨2, ![R, n]⟩ 8 y h (ix2 p l)).getLsbD q = (y (ix2 a l)).getLsbD (8 * (p.val % 4) + q) := by
  rw [bitcast_getLsbD y h _ q hq (by decide)]
  have hr : Shape.row (⟨2, ![R, n]⟩ : Shape) (ix2 p l) = p.val := rfl
  have e1 : (Shape.row (⟨2, ![R, n]⟩ : Shape) (ix2 p l) * 8 + q) / 32 = a.val := by rw [hr]; omega
  have e2 : (Shape.row (⟨2, ![R, n]⟩ : Shape) (ix2 p l) * 8 + q) % 32 = 8 * (p.val % 4) + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The word mask keeps the high half of each byte. -/
theorem mask_bit : ∀ i : Fin 32, (4042322160#32).getLsbD i.val = decide (4 ≤ i.val % 8) := by decide +kernel

/-- The byte mask keeps the high half. -/
theorem mask8_bit : ∀ i : Fin 8, (0xF0#8).getLsbD i.val = decide (4 ≤ i.val) := by decide +kernel

/-- The masked words, read as bytes again, are the bytes masked. -/
theorem hi_bytes {R r n : ℕ} (hR : R = 4 * r) (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) :
    bitcast ⟨2, ![R, n]⟩ 8 (andi (bitcast ⟨2, ![r, n]⟩ 32 x h) (broadcast ⟨2, ![r, n]⟩ 4042322160#32)) h' (ix2 p l) = x (ix2 p l) &&& 0xF0#8 := by
  apply BitVec.eq_of_getLsbD_eq
  intro i hi
  have hp : p.val < R := p.isLt
  rw [bytes_bit _ h' p l i hi ⟨p.val / 4, by omega⟩ rfl]
  show ((bitcast ⟨2, ![r, n]⟩ 32 x h (ix2 _ l)) &&& 4042322160#32).getLsbD _ = _
  rw [BitVec.getLsbD_and, words_bit x h _ l _ (by omega) p (by show p.val = 4 * (p.val / 4) + _; omega),
    mask_bit ⟨8 * (p.val % 4) + i, by omega⟩, BitVec.getLsbD_and, mask8_bit ⟨i, hi⟩]
  have : (8 * (p.val % 4) + i) % 8 = i := by omega
  simp only [this]

/-- The words shifted up by four and masked, read as bytes again, are the bytes shifted up by four. -/
theorem lo_bytes {R r n : ℕ} (hR : R = 4 * r) (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) :
    bitcast ⟨2, ![R, n]⟩ 8 (andi (shli (bitcast ⟨2, ![r, n]⟩ 32 x h) (broadcast ⟨2, ![r, n]⟩ 4#32)) (broadcast ⟨2, ![r, n]⟩ 4042322160#32)) h'
      (ix2 p l) = x (ix2 p l) <<< 4 := by
  apply BitVec.eq_of_getLsbD_eq
  intro i hi
  have hp : p.val < R := p.isLt
  rw [bytes_bit _ h' p l i hi ⟨p.val / 4, by omega⟩ rfl]
  show ((IntOp.shli .vector (bitcast ⟨2, ![r, n]⟩ 32 x h (ix2 _ l)) 4#32 : BitVec 32) &&& 4042322160#32).getLsbD _ = _
  have hs (w : BitVec 32) : IntOp.shli .vector w 4#32 = w <<< 4 := by simp [IntOp.shli]
  rw [BitVec.getLsbD_and, mask_bit ⟨8 * (p.val % 4) + i, by omega⟩, hs, BitVec.getLsbD_shiftLeft, BitVec.getLsbD_shiftLeft]
  have e : (8 * (p.val % 4) + i) % 8 = i := by omega
  simp only [e]
  by_cases h4 : 4 ≤ i
  · rw [words_bit x h _ l _ (by omega) p (by show p.val = 4 * (p.val / 4) + _; omega)]
    have e2 : (8 * (p.val % 4) + i - 4) % 8 = i - 4 := by omega
    have e3 : ¬ (8 * (p.val % 4) + i < 4) := by omega
    have e4 : 8 * (p.val % 4) + i < 32 := by omega
    have e5 : ¬ i < 4 := by omega
    simp [e2, e3, e4, e5, h4, hi]
  · have e5 : i < 4 := by omega
    simp [h4, e5]

/-- The low halves of the gate/up bytes, shifted up, as numbers. -/
theorem guCodes_lo (y : Vec Ideal S2048x256 .i8) (k : Fin 2048) (l : Fin 256) :
    k0_pay43 (F := Ideal) y (ix2 k l) = ((((y (ix2 k l) <<< 4).toInt : ℝ)) : EReal) := by
  unfold k0_pay43 k0_pay41
  exact congrArg (fun b : BitVec 8 => ((b.toInt : ℝ) : EReal)) (lo_bytes (R := 2048) (by norm_num) y _ _ k l)

/-- The high halves of the gate/up bytes, masked, as numbers. -/
theorem guCodes_hi (y : Vec Ideal S2048x256 .i8) (k : Fin 2048) (l : Fin 256) :
    k0_pay42 (F := Ideal) y (ix2 k l) = ((((y (ix2 k l) &&& 0xF0#8).toInt : ℝ)) : EReal) := by
  unfold k0_pay42 k0_pay41
  exact congrArg (fun b : BitVec 8 => ((b.toInt : ℝ) : EReal)) (hi_bytes (R := 2048) (by norm_num) y _ _ k l)

/-- The gate/up codes at an index: sixteen times the signed half. -/
theorem guCodes_apply (x2 : Vec Ideal S1x2048x1024 .i8) (m : Fin 4) (par : Fin 2) (k : Fin 2048) (l : Fin 256) :
    guCodes x2 (256 * m.val) par (ix2 k l)
      = ((((16 * nib (x2 (ix3 0 k ⟨256 * m.val + l.val, by omega⟩)) par : ℤ) : ℝ)) : EReal) := by
  have e : guCols x2 (256 * m.val) (ix2 k l) = x2 (ix3 0 k ⟨256 * m.val + l.val, by omega⟩) := by
    show x2 (ix3 0 k ⟨(256 * m.val + l.val) % 1024, _⟩) = _
    congr 2
    exact Fin.ext (Nat.mod_eq_of_lt (by omega))
  match par with
  | 0 => exact (guCodes_lo _ k l).trans (by rw [nib_lo, e])
  | 1 => exact (guCodes_hi _ k l).trans (by rw [nib_hi, e])

/-- The low halves of the down bytes, shifted up, as numbers. -/
theorem dnCodes_lo (y : Vec Ideal S1024x256 .i8) (k : Fin 1024) (l : Fin 256) :
    k0_pay205 (F := Ideal) y (ix2 k l) = ((((y (ix2 k l) <<< 4).toInt : ℝ)) : EReal) := by
  unfold k0_pay205 k0_pay203
  exact congrArg (fun b : BitVec 8 => ((b.toInt : ℝ) : EReal)) (lo_bytes (R := 1024) (by norm_num) y _ _ k l)

/-- The high halves of the down bytes, masked, as numbers. -/
theorem dnCodes_hi (y : Vec Ideal S1024x256 .i8) (k : Fin 1024) (l : Fin 256) :
    k0_pay204 (F := Ideal) y (ix2 k l) = ((((y (ix2 k l) &&& 0xF0#8).toInt : ℝ)) : EReal) := by
  unfold k0_pay204 k0_pay203
  exact congrArg (fun b : BitVec 8 => ((b.toInt : ℝ) : EReal)) (hi_bytes (R := 1024) (by norm_num) y _ _ k l)

/-- The down codes at an index: sixteen times the signed half. -/
theorem dnCodes_apply (x4 : Vec Ideal S1x1024x1024 .i8) (m : Fin 4) (par : Fin 2) (k : Fin 1024) (l : Fin 256) :
    dnCodes x4 (256 * m.val) par (ix2 k l)
      = ((((16 * nib (x4 (ix3 0 k ⟨256 * m.val + l.val, by omega⟩)) par : ℤ) : ℝ)) : EReal) := by
  have e : dnCols x4 (256 * m.val) (ix2 k l) = x4 (ix3 0 k ⟨256 * m.val + l.val, by omega⟩) := by
    show x4 (ix3 0 k ⟨(256 * m.val + l.val) % 1024, _⟩) = _
    congr 2
    exact Fin.ext (Nat.mod_eq_of_lt (by omega))
  match par with
  | 0 => exact (dnCodes_lo _ k l).trans (by rw [nib_lo, e])
  | 1 => exact (dnCodes_hi _ k l).trans (by rw [nib_hi, e])

/-- The code as an extended real. -/
def code (b : BitVec 8) (par : Fin 2) : EReal := ((nib b par : ℝ) : EReal)

/-- Sixteen times a code, scaled by a sixteenth of a scale, is the code scaled. -/
theorem code_scale (b : BitVec 8) (par : Fin 2) (s : EReal) :
    (((16 * nib b par : ℤ) : ℝ) : EReal) * (s * ((1 / 16 : ℝ) : EReal)) = code b par * s := by
  rw [mul_comm s, ← mul_assoc, ← EReal.coe_mul]
  unfold code
  congr 2
  push_cast
  ring

end Cert.Moe

end
-- ==== Proof.Perm.lean ====
module

public import proofs.«01_k».proof.Proof.Mirror
public import Idealize.ShloMosaic.Lib.IdealHost

/-!
The kernel's permutation matrices, and what a product with one of them reads.
-/

@[expose] public section

set_option maxRecDepth 16384

noncomputable section

namespace Cert.Moe

open Idealize.ShloMosaic Idealize.ShloMosaic.Tactic Cert.KernelIdeal Cert.KernelIdeal.Gen

/-- Where lane `l` of a de-interleaved row comes from: the even columns first, then the odd ones. -/
def splitSrc (l : Fin 256) : Fin 256 := ⟨2 * (l.val % 128) + l.val / 128, by omega⟩

/-- Where column `l` of a merged row comes from. -/
def mergeSrc (l : Fin 256) : Fin 256 := ⟨l.val / 2 + 128 * (l.val % 2), by omega⟩

/-- The split's target lane, as a formula, inverts its source lane. -/
theorem splitDst_eq : ∀ r l : Fin 256, (l.val = r.val / 2 + 128 * (r.val % 2)) ↔ r = splitSrc l := by
  intro r l
  unfold splitSrc
  rw [Fin.ext_iff]
  dsimp only
  omega

/-- The merge's target lane, as a formula, inverts its source lane. -/
theorem mergeDst_eq : ∀ r l : Fin 256, (l.val = if r.val < 128 then 2 * r.val else 2 * (r.val - 128) + 1) ↔ r = mergeSrc l := by
  intro r l
  unfold mergeSrc
  rw [Fin.ext_iff]
  dsimp only
  split <;> omega

/-- The kernel's word arithmetic computes the split's target lane. -/
theorem splitDst_word : ∀ r : Fin 256,
    IntOp.addi (IntOp.shrsi .vector (BitVec.ofNat 32 r.val) 1#32) (IntOp.muli 128#32 (IntOp.andi (BitVec.ofNat 32 r.val) 1#32))
      = BitVec.ofNat 32 (r.val / 2 + 128 * (r.val % 2)) := by decide +kernel

/-- The kernel's word arithmetic computes the merge's target lane. -/
theorem mergeDst_word : ∀ r : Fin 256,
    Scalar.select (IntOp.cmpi .slt (BitVec.ofNat 32 r.val) 128#32) (IntOp.muli 2#32 (BitVec.ofNat 32 r.val))
      (IntOp.addi (IntOp.muli 2#32 (IntOp.subi (BitVec.ofNat 32 r.val) 128#32)) 1#32)
      = BitVec.ofNat 32 (if r.val < 128 then 2 * r.val else 2 * (r.val - 128) + 1) := by decide +kernel

/-- A selection by equality of words is a selection by equality of the numbers. -/
theorem select_eq_words {α : Type} (l d : ℕ) (hl : l < 2 ^ 32) (hd : d < 2 ^ 32) (x y : α) :
    Scalar.select (IntOp.cmpi .eq (BitVec.ofNat 32 l) (BitVec.ofNat 32 d)) x y = if l = d then x else y := by
  have : (BitVec.ofNat 32 l = BitVec.ofNat 32 d) ↔ l = d := by
    rw [← BitVec.toNat_inj, BitVec.toNat_ofNat, BitVec.toNat_ofNat, Nat.mod_eq_of_lt hl, Nat.mod_eq_of_lt hd]
  by_cases h : l = d
  · subst h; simp [Scalar.select, IntOp.cmpi]
  · have h' := mt this.1 h
    rw [if_neg h]
    simp only [Scalar.select, IntOp.cmpi, beq_false_of_ne h']
    rfl

/-- A product with a matrix that holds `c` at one row of a column and zero elsewhere reads that row. -/
theorem sum_pick {n : ℕ} (x : Fin n → EReal) (k0 : Fin n) (c : EReal) : ∑ k : Fin n, x k * (if k = k0 then c else 0) = x k0 * c := by
  rw [Finset.sum_eq_single k0]
  · rw [if_pos rfl]
  · intro b _ hb; rw [if_neg hb, mul_zero]
  · intro h; exact absurd (Finset.mem_univ _) h

/-- The de-interleaving matrix, its entries one sixteenth. -/
def splitMat : FVec Ideal S256x256 .bf16 :=
  truncf .bf16 (select (cmpi .eq (iota .tc S256x256 32 [1] iota_S256x256_d1_w32)
    (addi (shrsi (iota .tc S256x256 32 [0] iota_S256x256_d0_w32) (broadcast S256x256 1#32))
      (muli (broadcast S256x256 128#32) (andi (iota .tc S256x256 32 [0] iota_S256x256_d0_w32) (broadcast S256x256 1#32)))))
    (broadcast S256x256 (Scalar.ofBits .f32 0x3D800000#32)) (broadcast S256x256 (Scalar.ofBits .f32 0x00000000#32))) bitsLt_bf16_f32

/-- This f32 bit pattern is one sixteenth. -/
theorem ofBits_sixteenth_f32 : Ideal.ofBits .f32 0x3D800000#32 = (((1 : ℝ) / 16 : ℝ) : EReal) := by
  simp [Ideal.ofBits, Ideal.ieee, -EReal.coe_mul]; norm_num

/-- The split matrix at an index: a sixteenth at the source lane, zero elsewhere. -/
theorem splitMat_apply (r l : Fin 256) : splitMat (ix2 r l) = if r = splitSrc l then ((1 / 16 : ℝ) : EReal) else 0 := by
  have e : splitMat (ix2 r l) = Scalar.select (IntOp.cmpi .eq (BitVec.ofNat 32 l.val)
      (IntOp.addi (IntOp.shrsi .vector (BitVec.ofNat 32 r.val) 1#32) (IntOp.muli 128#32 (IntOp.andi (BitVec.ofNat 32 r.val) 1#32))))
      (Ideal.ofBits .f32 0x3D800000#32) (Ideal.ofBits .f32 0x00000000#32) := by
    pointwise [splitMat]
  rw [e, splitDst_word, select_eq_words _ _ (by omega) (by omega), ofBits_sixteenth_f32, Ideal.ofBits_zero_f32]
  simp only [splitDst_eq]

/-- The merging matrix. -/
theorem mergeMat_apply (r l : Fin 256) : k0_pay33 (F := Ideal) (ix2 r l) = if r = mergeSrc l then 1 else 0 := by
  have e : k0_pay33 (F := Ideal) (ix2 r l) = Scalar.select (IntOp.cmpi .eq (BitVec.ofNat 32 l.val)
      (Scalar.select (IntOp.cmpi .slt (BitVec.ofNat 32 r.val) 128#32) (IntOp.muli 2#32 (BitVec.ofNat 32 r.val))
      (IntOp.addi (IntOp.muli 2#32 (IntOp.subi (BitVec.ofNat 32 r.val) 128#32)) 1#32)))
      (Ideal.ofBits .f32 0x3F800000#32) (Ideal.ofBits .f32 0x00000000#32) := by
    pointwise [k0_pay33]
  rw [e, mergeDst_word, select_eq_words _ _ (by omega) (by split <;> omega), Ideal.ofBits_one_f32, Ideal.ofBits_zero_f32]
  simp only [mergeDst_eq]

end Cert.Moe

end
-- ==== Proof.Tiles.lean ====
module

public import proofs.«01_k».proof.Proof.Codes
public import proofs.«01_k».proof.Proof.Perm

/-!
The scaled tiles and the products with them, read at an index over the extended reals.
-/

@[expose] public section

set_option maxRecDepth 16384

noncomputable section

namespace Cert.Moe

open Idealize.ShloMosaic Idealize.ShloMosaic.Tactic Cert.KernelIdeal Cert.KernelIdeal.Gen

/-- Each block of 256 columns lies within the gate/up scales. -/
theorem slices_gus (b : Fin 8) : S16x2048.Slices ![0, 256 * b.val] S16x256 := by fin_cases b <;> decide

/-- Each block of 256 columns lies within the down scales. -/
theorem slices_dns (b : Fin 8) : S8x2048.Slices ![0, 256 * b.val] S8x256 := by fin_cases b <;> decide

/-- 256 columns of the gate/up scales. -/
def gusCols (x3 : Vec Ideal S1x16x2048 .bf16) (b : Fin 8) : FVec Ideal S16x256 .bf16 :=
  extractStridedSlice S16x256 ![0, 256 * b.val] (shapeCast S16x2048 x3 shapeCasts_S1x16x2048_S16x2048) (slices_gus b)

/-- 256 columns of the down scales. -/
def dnsCols (x5 : Vec Ideal S1x8x2048 .bf16) (b : Fin 8) : FVec Ideal S8x256 .bf16 :=
  extractStridedSlice S8x256 ![0, 256 * b.val] (shapeCast S8x2048 x5 shapeCasts_S1x8x2048_S8x2048) (slices_dns b)

/-- The pieces of the scale rows. -/
abbrev scalePieces (x3 : Vec Ideal S1x16x2048 .bf16) (x5 : Vec Ideal S1x8x2048 .bf16) : List ((s : Shape) × (s.Idx → Ideal .bf16)) :=
  [⟨S16x256, gusCols x3 0⟩, ⟨S16x256, gusCols x3 1⟩, ⟨S16x256, gusCols x3 2⟩, ⟨S16x256, gusCols x3 3⟩,
   ⟨S16x256, gusCols x3 4⟩, ⟨S16x256, gusCols x3 5⟩, ⟨S16x256, gusCols x3 6⟩, ⟨S16x256, gusCols x3 7⟩,
   ⟨S8x256, dnsCols x5 0⟩, ⟨S8x256, dnsCols x5 1⟩, ⟨S8x256, dnsCols x5 2⟩, ⟨S8x256, dnsCols x5 3⟩,
   ⟨S8x256, dnsCols x5 4⟩, ⟨S8x256, dnsCols x5 5⟩, ⟨S8x256, dnsCols x5 6⟩, ⟨S8x256, dnsCols x5 7⟩]

/-- The scale rows, one above the other. -/
def scaleRows (x3 : Vec Ideal S1x16x2048 .bf16) (x5 : Vec Ideal S1x8x2048 .bf16) : FVec Ideal S192x256 .bf16 :=
  concatenate S192x256 0 (scalePieces x3 x5) concatenates_S16x256_S16x256_S16x256_S16x256_S16x256_S16x256_S16x256_S16x256_S8x256_S8x256_S8x256_S8x256_S8x256_S8x256_S8x256_S8x256_S192x256_d0

/-- The scale scratch is the stacked scale rows times the split matrix. -/
theorem pay40_eq (x3 : Vec Ideal S1x16x2048 .bf16) (x5 : Vec Ideal S1x8x2048 .bf16) :
    k0_pay40 x3 x5 = shapeCast S192x256 (matmul dot_S192x256_S256x256_S192x256_1_0_0_1_n_n none (scaleRows x3 x5) splitMat
      (constant S192x256 .f32 0x00000000#32)) shapeCasts_S192x256_S192x256 := rfl

/-- The scale scratch at an index: a sixteenth of the scale its lane comes from. -/
theorem pay40_apply (x3 : Vec Ideal S1x16x2048 .bf16) (x5 : Vec Ideal S1x8x2048 .bf16) (r : Fin 192) (l : Fin 256) :
    k0_pay40 x3 x5 (ix2 r l) = scaleRows x3 x5 (ix2 r (splitSrc l)) * ((1 / 16 : ℝ) : EReal) := by
  rw [pay40_eq]
  pointwise
  simp only [splitMat_apply]
  exact sum_pick (fun k => scaleRows x3 x5 (ix2 r k)) (splitSrc l) _

/-- 256 columns of the gate/up scales at an index. -/
theorem gusCols_apply (x3 : Vec Ideal S1x16x2048 .bf16) (b : Fin 8) (g : Fin 16) (c : Fin 256) :
    gusCols x3 b (ix2 g c) = x3 (ix3 0 g ⟨256 * b.val + c.val, by omega⟩) := by
  pointwise [gusCols]

/-- 256 columns of the down scales at an index. -/
theorem dnsCols_apply (x5 : Vec Ideal S1x8x2048 .bf16) (b : Fin 8) (g : Fin 8) (c : Fin 256) :
    dnsCols x5 b (ix2 g c) = x5 (ix3 0 g ⟨256 * b.val + c.val, by omega⟩) := by
  pointwise [dnsCols]

/-- The stacked scale rows begin with the gate/up scales, block by block. -/
theorem scaleRows_gu (x3 : Vec Ideal S1x16x2048 .bf16) (x5 : Vec Ideal S1x8x2048 .bf16) (b : Fin 8) (g : Fin 16) (c : Fin 256) :
    scaleRows x3 x5 (ix2 ⟨16 * b.val + g.val, by omega⟩ c) = gusCols x3 b (ix2 g c) := by
  unfold scaleRows
  refine concatenate_apply_piece (t := S192x256) 0 (scalePieces x3 x5) _ _ b.val (Nat.lt_of_lt_of_le b.isLt (by decide : 8 ≤ 16)) S16x256 (gusCols x3 b) ?_ rfl (16 * b.val) ?_ (ix2 g c) ?_ ?_
  · fin_cases b <;> rfl
  · fin_cases b <;> rfl
  · intro a ha
    fin_cases a
    · exact absurd rfl ha
    · rfl
  · rfl

/-- After them the stacked scale rows hold the down scales, block by block. -/
theorem scaleRows_dn (x3 : Vec Ideal S1x16x2048 .bf16) (x5 : Vec Ideal S1x8x2048 .bf16) (b : Fin 8) (g : Fin 8) (c : Fin 256) :
    scaleRows x3 x5 (ix2 ⟨128 + 8 * b.val + g.val, by omega⟩ c) = dnsCols x5 b (ix2 g c) := by
  unfold scaleRows
  refine concatenate_apply_piece (t := S192x256) 0 (scalePieces x3 x5) _ _ (8 + b.val) (Nat.add_lt_add_left b.isLt 8) S8x256 (dnsCols x5 b) ?_ rfl (128 + 8 * b.val) ?_ (ix2 g c) ?_ ?_
  · fin_cases b <;> sl_kernel_rfl
  · fin_cases b <;> sl_kernel_rfl
  · intro a ha
    fin_cases a
    · exact absurd rfl ha
    · rfl
  · rfl

/-- A scaled tile's scales at an index. -/
theorem scPair_apply (s : Fin 2 → Vec Ideal S1x128 .f32) (i : Fin 128) (l : Fin 256) :
    scPair (s 0) (s 1) (ix2 i l) = s ⟨l.val / 128, by omega⟩ (ix2 0 ⟨l.val % 128, Nat.mod_lt _ (by norm_num)⟩) := by
  pointwise [scPair]
  by_cases h : l.val < 128
  · rw [dif_pos h]
    have h1 : (⟨l.val / 128, by omega⟩ : Fin 2) = 0 := Fin.ext (by show l.val / 128 = 0; omega)
    have h2 : (⟨l.val % 128, Nat.mod_lt _ (by norm_num)⟩ : Fin 128) = ⟨l.val, h⟩ := Fin.ext (Nat.mod_eq_of_lt h)
    rw [h1, h2]
  · rw [dif_neg h]
    have h1 : (⟨l.val / 128, by omega⟩ : Fin 2) = 1 := Fin.ext (by show l.val / 128 = 1; omega)
    have h2 : (⟨l.val % 128, Nat.mod_lt _ (by norm_num)⟩ : Fin 128) = ⟨l.val - 128, by omega⟩ := Fin.ext (by show l.val % 128 = l.val - 128; omega)
    rw [h1, h2]

/-- A gate/up tile at an index. -/
theorem guCat_apply (q : FVec Ideal S2048x256 .bf16) (s : Fin 16 → Fin 2 → Vec Ideal S1x128 .f32) (h) (k : Fin 2048) (l : Fin 256) :
    concatenate S2048x256 0 [⟨S128x256, guPart q s 0⟩, ⟨S128x256, guPart q s 1⟩, ⟨S128x256, guPart q s 2⟩, ⟨S128x256, guPart q s 3⟩, ⟨S128x256, guPart q s 4⟩, ⟨S128x256, guPart q s 5⟩, ⟨S128x256, guPart q s 6⟩, ⟨S128x256, guPart q s 7⟩, ⟨S128x256, guPart q s 8⟩, ⟨S128x256, guPart q s 9⟩, ⟨S128x256, guPart q s 10⟩, ⟨S128x256, guPart q s 11⟩, ⟨S128x256, guPart q s 12⟩, ⟨S128x256, guPart q s 13⟩, ⟨S128x256, guPart q s 14⟩, ⟨S128x256, guPart q s 15⟩] h (ix2 k l)
      = q (ix2 k l) * s ⟨k.val / 128, by omega⟩ ⟨l.val / 128, by omega⟩ (ix2 0 ⟨l.val % 128, Nat.mod_lt _ (by norm_num)⟩) := by
  refine (concatenate_ofFn_apply (s₁ := S128x256) (t := S2048x256) 0 (fun g : Fin 16 => guPart q s g) h rfl 128 rfl (ix2 k l) ⟨k.val / 128, by omega⟩ rfl
    (ix2 ⟨k.val % 128, Nat.mod_lt _ (by norm_num)⟩ l) rfl ?_).trans ?_
  · intro a ha
    fin_cases a
    · exact absurd rfl ha
    · rfl
  · rw [← scPair_apply (s ⟨k.val / 128, by omega⟩) ⟨k.val % 128, Nat.mod_lt _ (by norm_num)⟩ l]
    pointwise [guPart]
    simp only [Nat.div_add_mod]

/-- A down tile at an index. -/
theorem dnCat_apply (q : FVec Ideal S1024x256 .bf16) (s : Fin 8 → Fin 2 → Vec Ideal S1x128 .f32) (h) (k : Fin 1024) (l : Fin 256) :
    concatenate S1024x256 0 [⟨S128x256, dnPart q s 0⟩, ⟨S128x256, dnPart q s 1⟩, ⟨S128x256, dnPart q s 2⟩, ⟨S128x256, dnPart q s 3⟩, ⟨S128x256, dnPart q s 4⟩, ⟨S128x256, dnPart q s 5⟩, ⟨S128x256, dnPart q s 6⟩, ⟨S128x256, dnPart q s 7⟩] h (ix2 k l)
      = q (ix2 k l) * s ⟨k.val / 128, by omega⟩ ⟨l.val / 128, by omega⟩ (ix2 0 ⟨l.val % 128, Nat.mod_lt _ (by norm_num)⟩) := by
  refine (concatenate_ofFn_apply (s₁ := S128x256) (t := S1024x256) 0 (fun g : Fin 8 => dnPart q s g) h rfl 128 rfl (ix2 k l) ⟨k.val / 128, by omega⟩ rfl
    (ix2 ⟨k.val % 128, Nat.mod_lt _ (by norm_num)⟩ l) rfl ?_).trans ?_
  · intro a ha
    fin_cases a
    · exact absurd rfl ha
    · rfl
  · rw [← scPair_apply (s ⟨k.val / 128, by omega⟩) ⟨k.val % 128, Nat.mod_lt _ (by norm_num)⟩ l]
    pointwise [dnPart]
    simp only [Nat.div_add_mod]

/-- A gate/up product at an index: the sum over the rows of token times code times scale. -/
theorem guDot_apply (xb : FVec Ideal S64x2048 .bf16) (q : FVec Ideal S2048x256 .bf16) (s : Fin 16 → Fin 2 → Vec Ideal S1x128 .f32) (t : Fin 64) (l : Fin 256) :
    guDot xb q s (ix2 t l) = ∑ k : Fin 2048, xb (ix2 t k) * (q (ix2 k l) * s ⟨k.val / 128, by omega⟩ ⟨l.val / 128, by omega⟩
      (ix2 0 ⟨l.val % 128, Nat.mod_lt _ (by norm_num)⟩)) := by
  simp only [← guCat_apply q s concatenates_S128x256_S128x256_S128x256_S128x256_S128x256_S128x256_S128x256_S128x256_S128x256_S128x256_S128x256_S128x256_S128x256_S128x256_S128x256_S128x256_S2048x256_d0]
  unfold guDot
  generalize concatenate S2048x256 0 _ _ = w
  pointwise

/-- A down product at an index: the sum over the rows of hidden value times code times scale. -/
theorem dnDot_apply (h : FVec Ideal S64x1024 .bf16) (q : FVec Ideal S1024x256 .bf16) (s : Fin 8 → Fin 2 → Vec Ideal S1x128 .f32) (t : Fin 64) (l : Fin 256) :
    dnDot h q s (ix2 t l) = ∑ k : Fin 1024, h (ix2 t k) * (q (ix2 k l) * s ⟨k.val / 128, by omega⟩ ⟨l.val / 128, by omega⟩
      (ix2 0 ⟨l.val % 128, Nat.mod_lt _ (by norm_num)⟩)) := by
  simp only [← dnCat_apply q s concatenates_S128x256_S128x256_S128x256_S128x256_S128x256_S128x256_S128x256_S128x256_S1024x256_d0]
  unfold dnDot
  generalize concatenate S1024x256 0 _ _ = w
  pointwise

/-- The dequantised gate/up weight of one expert. -/
def wGu (x2 : Vec Ideal S1x2048x1024 .i8) (x3 : Vec Ideal S1x16x2048 .bf16) (k : Fin 2048) (n : Fin 2048) : EReal :=
  code (x2 (ix3 0 k ⟨n.val / 2, by omega⟩)) ⟨n.val % 2, by omega⟩ * x3 (ix3 0 ⟨k.val / 128, by omega⟩ n)

/-- The dequantised down weight of one expert. -/
def wDn (x4 : Vec Ideal S1x1024x1024 .i8) (x5 : Vec Ideal S1x8x2048 .bf16) (k : Fin 1024) (n : Fin 2048) : EReal :=
  code (x4 (ix3 0 k ⟨n.val / 2, by omega⟩)) ⟨n.val % 2, by omega⟩ * x5 (ix3 0 ⟨k.val / 128, by omega⟩ n)

/-- A scale row read for a gate/up tile. -/
theorem scRow_gu (x3 : Vec Ideal S1x16x2048 .bf16) (x5 : Vec Ideal S1x8x2048 .bf16) (m : Fin 4) (j par : Fin 2) (g : Fin 16) (c : Fin 128) :
    scRow (k0_pay40 x3 x5) ((2 * m.val + j.val) * 16 + g.val) (par.val * 128) (ix2 0 c)
      = x3 (ix3 0 g ⟨2 * (256 * m.val + 128 * j.val + c.val) + par.val, by omega⟩) * ((1 / 16 : ℝ) : EReal) := by
  have e : scRow (k0_pay40 x3 x5) ((2 * m.val + j.val) * 16 + g.val) (par.val * 128) (ix2 0 c)
      = k0_pay40 x3 x5 (ix2 ⟨16 * (2 * m.val + j.val) + g.val, by omega⟩ ⟨par.val * 128 + c.val, by omega⟩) := by
    show k0_pay40 x3 x5 (ix2 ⟨((2 * m.val + j.val) * 16 + g.val) % 192, _⟩ ⟨(par.val * 128 + c.val) % 256, _⟩) = _
    congr 2 <;> exact Fin.ext (by dsimp only; omega)
  rw [e, pay40_apply, scaleRows_gu x3 x5 ⟨2 * m.val + j.val, by omega⟩ g, gusCols_apply]
  congr 3
  exact Fin.ext (by simp only [splitSrc]; omega)

/-- A scale row read for a down tile. -/
theorem scRow_dn (x3 : Vec Ideal S1x16x2048 .bf16) (x5 : Vec Ideal S1x8x2048 .bf16) (m : Fin 4) (j par : Fin 2) (g : Fin 8) (c : Fin 128) :
    scRow (k0_pay40 x3 x5) (128 + (2 * m.val + j.val) * 8 + g.val) (par.val * 128) (ix2 0 c)
      = x5 (ix3 0 g ⟨2 * (256 * m.val + 128 * j.val + c.val) + par.val, by omega⟩) * ((1 / 16 : ℝ) : EReal) := by
  have e : scRow (k0_pay40 x3 x5) (128 + (2 * m.val + j.val) * 8 + g.val) (par.val * 128) (ix2 0 c)
      = k0_pay40 x3 x5 (ix2 ⟨128 + 8 * (2 * m.val + j.val) + g.val, by omega⟩ ⟨par.val * 128 + c.val, by omega⟩) := by
    show k0_pay40 x3 x5 (ix2 ⟨(128 + (2 * m.val + j.val) * 8 + g.val) % 192, _⟩ ⟨(par.val * 128 + c.val) % 256, _⟩) = _
    congr 2 <;> exact Fin.ext (by dsimp only; omega)
  rw [e, pay40_apply, scaleRows_dn x3 x5 ⟨2 * m.val + j.val, by omega⟩ g, dnsCols_apply]
  congr 3
  exact Fin.ext (by simp only [splitSrc]; omega)

/-- A gate/up product at an index: the activations times the dequantised weights of one natural column. -/
theorem guOut_apply (xb : FVec Ideal S64x2048 .bf16) (x2 : Vec Ideal S1x2048x1024 .i8) (x3 : Vec Ideal S1x16x2048 .bf16)
    (x5 : Vec Ideal S1x8x2048 .bf16) (m : Fin 4) (par : Fin 2) (t : Fin 64) (l : Fin 256) :
    guOut xb x2 (k0_pay40 x3 x5) m par (ix2 t l)
      = ∑ k : Fin 2048, xb (ix2 t k) * wGu x2 x3 k ⟨2 * (256 * m.val + l.val) + par.val, by omega⟩ := by
  unfold guOut
  rw [guDot_apply]
  refine Finset.sum_congr rfl fun k _ => ?_
  congr 1
  rw [guCodes_apply]
  dsimp only
  rw [scRow_gu x3 x5 m ⟨l.val / 128, by omega⟩ par ⟨k.val / 128, by omega⟩ ⟨l.val % 128, by omega⟩, code_scale]
  unfold wGu
  have h1 : (⟨(2 * (256 * m.val + l.val) + par.val) / 2, by omega⟩ : Fin 1024) = ⟨256 * m.val + l.val, by omega⟩ := Fin.ext (by dsimp only; omega)
  have h2 : (⟨(2 * (256 * m.val + l.val) + par.val) % 2, by omega⟩ : Fin 2) = par := Fin.ext (by dsimp only; omega)
  have h3 : (⟨2 * (256 * m.val + 128 * (l.val / 128) + l.val % 128) + par.val, by omega⟩ : Fin 2048) = ⟨2 * (256 * m.val + l.val) + par.val, by omega⟩ :=
    Fin.ext (by dsimp only; omega)
  dsimp only
  rw [h1, h2, h3]

/-- A down product at an index. -/
theorem dnOut_apply (h : FVec Ideal S64x1024 .bf16) (x4 : Vec Ideal S1x1024x1024 .i8) (x3 : Vec Ideal S1x16x2048 .bf16)
    (x5 : Vec Ideal S1x8x2048 .bf16) (m : Fin 4) (par : Fin 2) (t : Fin 64) (l : Fin 256) :
    dnOut h x4 (k0_pay40 x3 x5) m par (ix2 t l)
      = ∑ k : Fin 1024, h (ix2 t k) * wDn x4 x5 k ⟨2 * (256 * m.val + l.val) + par.val, by omega⟩ := by
  unfold dnOut
  rw [dnDot_apply]
  refine Finset.sum_congr rfl fun k _ => ?_
  congr 1
  rw [dnCodes_apply]
  dsimp only
  rw [scRow_dn x3 x5 m ⟨l.val / 128, by omega⟩ par ⟨k.val / 128, by omega⟩ ⟨l.val % 128, by omega⟩, code_scale]
  unfold wDn
  have h1 : (⟨(2 * (256 * m.val + l.val) + par.val) / 2, by omega⟩ : Fin 1024) = ⟨256 * m.val + l.val, by omega⟩ := Fin.ext (by dsimp only; omega)
  have h2 : (⟨(2 * (256 * m.val + l.val) + par.val) % 2, by omega⟩ : Fin 2) = par := Fin.ext (by dsimp only; omega)
  have h3 : (⟨2 * (256 * m.val + 128 * (l.val / 128) + l.val % 128) + par.val, by omega⟩ : Fin 2048) = ⟨2 * (256 * m.val + l.val) + par.val, by omega⟩ :=
    Fin.ext (by dsimp only; omega)
  dsimp only
  rw [h1, h2, h3]

end Cert.Moe

end
-- ==== Proof.Expert.lean ====
module

public import proofs.«01_k».proof.Proof.Tiles

/-!
One expert's contribution, read at an index over the extended reals.
-/

@[expose] public section

set_option maxRecDepth 16384

noncomputable section

namespace Cert.Moe

open Idealize.ShloMosaic Idealize.ShloMosaic.Tactic Cert.KernelIdeal Cert.KernelIdeal.Gen

/-- The gate/up activations of one expert. -/
def gu (xb : FVec Ideal S64x2048 .bf16) (x2 : Vec Ideal S1x2048x1024 .i8) (x3 : Vec Ideal S1x16x2048 .bf16) (t : Fin 64) (n : Fin 2048) : EReal :=
  ∑ k : Fin 2048, xb (ix2 t k) * wGu x2 x3 k n

/-- `silu g * u`. -/
def swiglu (g u : EReal) : EReal := g * Ideal.div 1 (1 + Ideal.exp (-g)) * u

/-- The hidden activations of one expert, in natural column order. -/
def hid (xb : FVec Ideal S64x2048 .bf16) (x2 : Vec Ideal S1x2048x1024 .i8) (x3 : Vec Ideal S1x16x2048 .bf16) (t : Fin 64) (f : Fin 1024) : EReal :=
  swiglu (gu xb x2 x3 t ⟨f.val, by omega⟩) (gu xb x2 x3 t ⟨1024 + f.val, by omega⟩)

/-- The output of one expert. -/
def expertOut (xb : FVec Ideal S64x2048 .bf16) (x2 : Vec Ideal S1x2048x1024 .i8) (x3 : Vec Ideal S1x16x2048 .bf16)
    (x4 : Vec Ideal S1x1024x1024 .i8) (x5 : Vec Ideal S1x8x2048 .bf16) (t : Fin 64) (n : Fin 2048) : EReal :=
  ∑ f : Fin 1024, hid xb x2 x3 t f * wDn x4 x5 f n

/-- Half of a hidden block at an index: SwiGLU of the gate and up products there. -/
theorem hHalf_apply (g u : FVec Ideal S64x256 .f32) (j : Fin 2) (t : Fin 64) (c : Fin 128) :
    hHalf g u j (ix2 t c) = swiglu (g (ix2 t ⟨128 * j.val + c.val, by omega⟩)) (u (ix2 t ⟨128 * j.val + c.val, by omega⟩)) := by
  pointwise [hHalf, halfCols, swiglu]
  rfl

/-- A gate/up product at an index, by its natural column. -/
theorem guOut_eq (xb : FVec Ideal S64x2048 .bf16) (x2 : Vec Ideal S1x2048x1024 .i8) (x3 : Vec Ideal S1x16x2048 .bf16)
    (x5 : Vec Ideal S1x8x2048 .bf16) (m : Fin 4) (par : Fin 2) (t : Fin 64) (l : Fin 256) (n : Fin 2048)
    (hn : 2 * (256 * m.val + l.val) + par.val = n.val) : guOut xb x2 (k0_pay40 x3 x5) m par (ix2 t l) = gu xb x2 x3 t n := by
  rw [guOut_apply]
  exact congrArg (gu xb x2 x3 t) (Fin.ext hn)

/-- A row block of the hidden scratch: the even natural columns, then the odd ones. -/
theorem hBlock_apply (xb : FVec Ideal S64x2048 .bf16) (x2 : Vec Ideal S1x2048x1024 .i8) (x3 : Vec Ideal S1x16x2048 .bf16)
    (x5 : Vec Ideal S1x8x2048 .bf16) (m j : Fin 2) (t : Fin 64) (c : Fin 256) :
    hBlock xb x2 (k0_pay40 x3 x5) m j (ix2 t c)
      = hid xb x2 x3 t ⟨256 * (2 * m.val + j.val) + 2 * (c.val % 128) + c.val / 128, by omega⟩ := by
  have e0 : ((0 : Fin 2)).val = 0 := rfl
  have e1 : ((1 : Fin 2)).val = 1 := rfl
  pointwise [hBlock]
  by_cases h : c.val < 128
  · rw [dif_pos h, hHalf_apply, guOut_eq xb x2 x3 x5 _ 0 t _ ⟨256 * (2 * m.val + j.val) + 2 * (c.val % 128) + c.val / 128, by omega⟩
      (by simp only [e0]; omega), guOut_eq xb x2 x3 x5 _ 0 t _ ⟨1024 + (256 * (2 * m.val + j.val) + 2 * (c.val % 128) + c.val / 128), by omega⟩
      (by simp only [e0]; omega)]
    rfl
  · rw [dif_neg h, hHalf_apply, guOut_eq xb x2 x3 x5 _ 1 t _ ⟨256 * (2 * m.val + j.val) + 2 * (c.val % 128) + c.val / 128, by omega⟩
      (by simp only [e1]; omega), guOut_eq xb x2 x3 x5 _ 1 t _ ⟨1024 + (256 * (2 * m.val + j.val) + 2 * (c.val % 128) + c.val / 128), by omega⟩
      (by simp only [e1]; omega)]
    rfl

/-- The hidden scratch at row `64 b + t`. -/
theorem hScratch_apply (xb : FVec Ideal S64x2048 .bf16) (x2 : Vec Ideal S1x2048x1024 .i8) (x3 : Vec Ideal S1x16x2048 .bf16)
    (x5 : Vec Ideal S1x8x2048 .bf16) (b : Fin 4) (t : Fin 64) (c : Fin 256) :
    hScratch xb x2 (k0_pay40 x3 x5) (ix2 ⟨64 * b.val + t.val, by omega⟩ c)
      = hid xb x2 x3 t ⟨256 * b.val + 2 * (c.val % 128) + c.val / 128, by omega⟩ := by
  have h1 : (⟨(64 * b.val + t.val) % 64, Nat.mod_lt _ (by norm_num)⟩ : Fin 64) = t := Fin.ext (by dsimp only; omega)
  show hBlock xb x2 (k0_pay40 x3 x5) ⟨(64 * b.val + t.val) / 128, by omega⟩ ⟨(64 * b.val + t.val) / 64 % 2, by omega⟩
    (ix2 ⟨(64 * b.val + t.val) % 64, Nat.mod_lt _ (by norm_num)⟩ c) = _
  rw [h1, hBlock_apply]
  exact congrArg _ (Fin.ext (by dsimp only; omega))

/-- The rows merged back into natural column order. -/
def hMerged (v : FVec Ideal S256x256 .bf16) : FVec Ideal S256x256 .bf16 :=
  truncf .bf16 (matmul dot_S256x256_S256x256_S256x256_1_0_0_1_n_n none v (truncf .bf16 (k0_pay33 (F := Ideal)) bitsLt_bf16_f32 : FVec Ideal S256x256 .bf16)
    (constant S256x256 .f32 0x00000000#32)) bitsLt_bf16_f32

/-- The product with the merge matrix takes each column from its source lane. -/
theorem hMerged_apply (v : FVec Ideal S256x256 .bf16) (r l : Fin 256) : hMerged v (ix2 r l) = v (ix2 r (mergeSrc l)) := by
  have e : hMerged v (ix2 r l) = ∑ k : Fin 256, v (ix2 r k) * k0_pay33 (F := Ideal) (ix2 k l) := by
    unfold hMerged
    generalize k0_pay33 (F := Ideal) = w
    pointwise
  rw [e]
  simp only [mergeMat_apply]
  rw [sum_pick (fun k => v (ix2 r k)), mul_one]

/-- Each block of 64 rows lies within the hidden scratch. -/
theorem slices_rows (b : Fin 4) : S256x256.Slices ![64 * b.val, 0] S64x256 := by fin_cases b <;> decide

/-- The merged hidden rows set side by side, at an index. -/
theorem pay201_apply (v : FVec Ideal S256x256 .bf16) (t : Fin 64) (f : Fin 1024) :
    k0_pay201 (F := Ideal) v (ix2 t f) = hMerged v (ix2 ⟨64 * (f.val / 256) + t.val, by omega⟩ ⟨f.val % 256, Nat.mod_lt _ (by norm_num)⟩) := by
  refine (concatenate_ofFn_apply (s₁ := S64x256) (t := S64x1024) 1
    (fun b : Fin 4 => extractStridedSlice S64x256 ![64 * b.val, 0] (hMerged v) (slices_rows b))
    concatenates_S64x256_S64x256_S64x256_S64x256_S64x1024_d1 rfl 256 rfl (ix2 t f) ⟨f.val / 256, by omega⟩ rfl
    (ix2 t ⟨f.val % 256, Nat.mod_lt _ (by norm_num)⟩) rfl ?_).trans ?_
  · intro a ha
    fin_cases a
    · rfl
    · exact absurd rfl ha
  · pointwise

/-- The hidden activations the kernel multiplies are the natural ones. -/
theorem hNat_apply (xb : FVec Ideal S64x2048 .bf16) (x2 : Vec Ideal S1x2048x1024 .i8) (x3 : Vec Ideal S1x16x2048 .bf16)
    (x5 : Vec Ideal S1x8x2048 .bf16) (t : Fin 64) (f : Fin 1024) :
    hNat xb x2 (k0_pay40 x3 x5) (ix2 t f) = hid xb x2 x3 t f := by
  unfold hNat
  rw [pay201_apply, hMerged_apply, hScratch_apply xb x2 x3 x5 ⟨f.val / 256, by omega⟩]
  refine congrArg _ (Fin.ext ?_)
  simp only [mergeSrc]
  omega

/-- The routing weight of one expert. -/
theorem gate_apply (e : Fin 32) (gates : Vec Ideal S64x32 .f32) (t : Fin 64) :
    k0_pay202 (F := Ideal) (BitVec.ofNat 32 e.val) gates (ix2 t 0) = gates (ix2 t e) := by
  have h : k0_pay202 (F := Ideal) (BitVec.ofNat 32 e.val) gates (ix2 t 0)
      = ∑ k : Fin 32, Scalar.select (IntOp.cmpi .eq (BitVec.ofNat 32 k.val) (BitVec.ofNat 32 e.val)) (gates (ix2 t k)) (Ideal.ofBits .f32 0x00000000#32) := by
    pointwise [k0_pay202]
  rw [h, Ideal.ofBits_zero_f32]
  refine (Finset.sum_congr rfl fun k _ => select_eq_words k.val e.val (by omega) (by omega) (gates (ix2 t k)) 0).trans ?_
  simp only [← Fin.ext_iff]
  exact (Finset.sum_ite_eq' Finset.univ e (fun k => gates (ix2 t k))).trans (if_pos (Finset.mem_univ _))

/-- The natural column a column of the accumulator holds. -/
def accCol (n : Fin 2048) : Fin 2048 := ⟨256 * (n.val / 256) + 2 * (n.val % 128) + n.val / 128 % 2, by omega⟩

/-- A point adds the expert's weighted output, its columns in the accumulator's order. -/
theorem accNew_apply (i : grid0.Coords) (e : Fin 32) (he : (i 0).val = e.val) (xb : FVec Ideal S64x2048 .bf16) (gates : Vec Ideal S64x32 .f32) (acc : Vec Ideal S64x2048 .f32)
    (x2 : Vec Ideal S1x2048x1024 .i8) (x3 : Vec Ideal S1x16x2048 .bf16) (x4 : Vec Ideal S1x1024x1024 .i8) (x5 : Vec Ideal S1x8x2048 .bf16) (t : Fin 64) (n : Fin 2048) :
    accNew i xb gates acc x2 x3 x4 x5 (ix2 t n) = acc (ix2 t n) + gates (ix2 t e) * expertOut xb x2 x3 x4 x5 t (accCol n) := by
  unfold accNew
  rw [he]
  show accPiece (k0_pay202 (F := Ideal) (BitVec.ofNat 32 e.val) gates) (dnOut (hNat xb x2 (k0_pay40 x3 x5)) x4 (k0_pay40 x3 x5) ⟨n.val / 128 / 4, by omega⟩ ⟨n.val / 128 % 2, by omega⟩)
    ⟨n.val / 128 / 2 % 2, by omega⟩ (accCols acc (128 * (n.val / 128))) (ix2 t ⟨n.val % 128, Nat.mod_lt _ (by norm_num)⟩) = _
  have h1 : accCols acc (128 * (n.val / 128)) (ix2 t ⟨n.val % 128, Nat.mod_lt _ (by norm_num)⟩) = acc (ix2 t n) := by
    show acc (ix2 t ⟨(128 * (n.val / 128) + n.val % 128) % 2048, _⟩) = _
    congr 2
    exact Fin.ext (by dsimp only; omega)
  rw [← h1, ← gate_apply e gates t]
  generalize hd : dnOut (hNat xb x2 (k0_pay40 x3 x5)) x4 (k0_pay40 x3 x5) ⟨n.val / 128 / 4, by omega⟩ ⟨n.val / 128 % 2, by omega⟩ = o
  generalize k0_pay202 (F := Ideal) (BitVec.ofNat 32 e.val) gates = gt
  generalize accCols acc (128 * (n.val / 128)) = ac
  pointwise [accPiece, halfCols]
  congr 2
  rw [← hd, dnOut_apply]
  unfold expertOut
  refine Finset.sum_congr rfl fun k _ => ?_
  rw [hNat_apply]
  refine congrArg (fun n => hid xb x2 x3 t k * wDn x4 x5 k n) (Fin.ext ?_)
  simp only [accCol]
  omega

/-- The column of the accumulator that natural column `n` of the result comes from. -/
def outCol (n : Fin 2048) : Fin 2048 := ⟨256 * (n.val / 256) + n.val % 256 / 2 + 128 * (n.val % 2), by omega⟩

/-- The two column maps are inverse to each other. -/
theorem accCol_outCol (n : Fin 2048) : accCol (outCol n) = n := by
  refine Fin.ext ?_
  simp only [accCol, outCol]
  have hc : n.val % 2 = 0 ∨ n.val % 2 = 1 := by omega
  have hb : n.val % 256 / 2 < 128 := by omega
  have hn : n.val = 256 * (n.val / 256) + 2 * (n.val % 256 / 2) + n.val % 2 := by omega
  generalize n.val / 256 = a at hn ⊢
  generalize n.val % 256 / 2 = b at hn hb ⊢
  generalize n.val % 2 = c at hn hc ⊢
  rcases hc with rfl | rfl <;> omega

/-- A block of the output at an index: the accumulator at the source lane. -/
theorem outBlock_apply (acc : Vec Ideal S64x2048 .f32) (b : Fin 8) (t : Fin 64) (l : Fin 256) :
    outBlock acc b (ix2 t l) = acc (ix2 t ⟨256 * b.val + (mergeSrc l).val, by omega⟩) := by
  have e : outBlock acc b (ix2 t l) = ∑ k : Fin 256, accCols2 acc (256 * b.val) (ix2 t k) * k0_pay33 (F := Ideal) (ix2 k l) := by
    unfold outBlock
    generalize k0_pay33 (F := Ideal) = w
    generalize accCols2 acc (256 * b.val) = a
    pointwise [k0_pay3]
  rw [e]
  simp only [mergeMat_apply]
  rw [sum_pick (fun k => accCols2 acc (256 * b.val) (ix2 t k)), mul_one]
  show acc (ix2 t ⟨(256 * b.val + (mergeSrc l).val) % 2048, _⟩) = _
  congr 2
  exact Fin.ext (by have := (mergeSrc l).isLt; dsimp only; omega)

/-- The last point puts the columns back in natural order. -/
theorem outNew_apply (acc : Vec Ideal S64x2048 .f32) (t : Fin 64) (n : Fin 2048) : outNew acc (ix2 t n) = acc (ix2 t (outCol n)) := by
  show outBlock acc ⟨n.val / 256, by omega⟩ (ix2 t ⟨n.val % 256, Nat.mod_lt _ (by norm_num)⟩) = _
  rw [outBlock_apply]
  refine congrArg (fun c => acc (ix2 t c)) (Fin.ext ?_)
  simp only [mergeSrc, outCol]
  omega

/-- One expert's slice of a batched array. -/
def part {A B : ℕ} {α : Type} (a : (⟨3, ![32, A, B]⟩ : Shape).Idx → α) (e : Fin 32) : (⟨3, ![1, A, B]⟩ : Shape).Idx → α :=
  fun j => a (ix3 e (j 1) (j 2))

end Cert.Moe

end
-- ==== Proof.Blocks.lean ====
module

public import proofs.«01_k».proof.Proof.Expert
public import Idealize.ShloMosaic.Lib.Pipeline.ValueKit
public import Idealize.ShloMosaic.Lib.Claim

/-!
The kernel's input blocks at a grid point, as parts of the launched arrays.
-/

@[expose] public section

set_option maxRecDepth 16384

noncomputable section

namespace Cert.Moe

open Idealize.ShloMosaic Idealize.ShloMosaic.Tactic Idealize.ShloMosaic.TcCoe Idealize.SL.Sem Cert.KernelIdeal Cert.KernelIdeal.Gen

variable {F : FTy → Type} [FloatOps F] (m : (ℓ : Loc nD τ sig) → Buf (Elt F) ℓ) (c : Dev nD)

/-- The grid coordinate of a point is its number. -/
theorem coord_eq : ∀ t : Fin grid0.N, ((grid0.coords t) 0).val = t.val := by decide +kernel

/-- The windows' block indices at a point. -/
theorem idx : ∀ t : Fin grid0.N, win0_0.index t = ![0, 0] ∧ win0_1.index t = ![0, 0] ∧ win0_2.index t = ![t.val, 0, 0]
    ∧ win0_3.index t = ![t.val, 0, 0] ∧ win0_4.index t = ![t.val, 0, 0] ∧ win0_5.index t = ![t.val, 0, 0] := by decide +kernel

/-- The tokens are whole at every point: the launched array without its unit axis. -/
theorem blk0 (t : Fin cfg0.N) :
    (iblk m c 0 t : Vec F S64x2048 .f32) = shapeCast S64x2048 (m ((c : Thread nD τ).loc main_arg0)) shapeCasts_S64x1x2048_S64x2048 := by
  funext y
  blk_ext! [iblk, V, idx t]

/-- The router weights are whole at every point. -/
theorem blk1 (t : Fin cfg0.N) : (iblk m c 1 t : Vec F S2048x32 .f32) = m ((c : Thread nD τ).loc main_arg1) := by
  funext y
  blk_ext! [iblk, V, idx t]

/-- At expert `e`'s point the packed gate/up weights are expert `e`'s. -/
theorem blk2 (t : Fin cfg0.N) (e : Fin 32) (h : t.val = e.val) :
    (iblk m c 2 t : Vec F S1x2048x1024 .i8) = part (m ((c : Thread nD τ).loc main_arg2)) e := by
  funext y
  unfold part
  blk_ext! [iblk, V, idx t]

/-- At expert `e`'s point the gate/up scales are expert `e`'s. -/
theorem blk3 (t : Fin cfg0.N) (e : Fin 32) (h : t.val = e.val) :
    (iblk m c 3 t : Vec F S1x16x2048 .bf16) = part (m ((c : Thread nD τ).loc main_arg3)) e := by
  funext y
  unfold part
  blk_ext! [iblk, V, idx t]

/-- At expert `e`'s point the packed down weights are expert `e`'s. -/
theorem blk4 (t : Fin cfg0.N) (e : Fin 32) (h : t.val = e.val) :
    (iblk m c 4 t : Vec F S1x1024x1024 .i8) = part (m ((c : Thread nD τ).loc main_arg4)) e := by
  funext y
  unfold part
  blk_ext! [iblk, V, idx t]

/-- At expert `e`'s point the down scales are expert `e`'s. -/
theorem blk5 (t : Fin cfg0.N) (e : Fin 32) (h : t.val = e.val) :
    (iblk m c 5 t : Vec F S1x8x2048 .bf16) = part (m ((c : Thread nD τ).loc main_arg5)) e := by
  funext y
  unfold part
  blk_ext! [iblk, V, idx t]

end Cert.Moe

end
-- ==== Proof.Top4.lean ====
/-
  The order behind the router. A row of 32 extended reals is ranked by "greater first, equal entries by position";
  `sel x r` is the position ranked `r`. A stable sort by "greater" puts `sel x r` at place `r` (`sortedFrom_eq_sel`), and
  repeated maximum with masking finds the same positions: with exactly the positions ranked before `r` masked out by `⊥`,
  the maximum is `x (sel x r)` (`max_masked`) and the least position that attains it outside the mask is `sel x r`
  (`min_hit`).
-/
module

public import Idealize.ShloMosaic.Lib.SortPrefix
public import Idealize.ShloMosaic.PureOps.Ideal
public import Idealize.ShloMosaic.PureOps.Reduce

@[expose] public section

noncomputable section

namespace Cert.Moe

open Idealize.ShloMosaic Idealize.ShloMosaic.IntOp

/-- Position `a` is ranked before position `b`: its entry is greater, or equal and at a smaller position. -/
def before (x : Fin 32 → EReal) (a b : Fin 32) : Bool := decide (x b < x a) || (decide (x a = x b) && decide (a < b))

/-- The ranking is a strict total order on the positions. -/
theorem before_total (x : Fin 32 → EReal) : StrictTotalBefore (before x) := by
  classical
  have h := StrictTotalBefore.of_key_then_position (n := 32) (κ := EReal) (fun a b => decide (b < a)) x
    (by intro a; simp) (by intro a b c; simp only [decide_eq_true_eq]; exact fun h1 h2 => lt_trans h2 h1)
    (by
      intro a b
      simp only [decide_eq_true_eq]
      rcases lt_trichotomy a b with h | h | h
      · exact Or.inr (Or.inr h)
      · exact Or.inr (Or.inl h)
      · exact Or.inl h)
  constructor
  · intro a; simpa [before] using h.irrefl a
  · intro a b c; simpa [before] using h.trans a b c
  · intro a b; simpa [before] using h.total a b

/-- The position ranked `r`. -/
def sel (x : Fin 32 → EReal) (r : Fin 32) : Fin 32 := sortedFrom (before x) r

/-- Every position has a rank. -/
theorem sel_surjective (x : Fin 32 → EReal) : Function.Surjective (sel x) := sortedFrom_surjective _

/-- Different ranks are different positions. -/
theorem sel_injective (x : Fin 32 → EReal) : Function.Injective (sel x) := sortedFrom_injective _

/-- A smaller rank is ranked before. -/
theorem before_sel (x : Fin 32 → EReal) (r s : Fin 32) (h : r < s) : before x (sel x r) (sel x s) = true := by
  have hb := before_total x
  have hn : before x (sel x s) (sel x r) = false :=
    sortedFrom_noInversion (before x) (before x) (fun a b h => hb.asymm a b h) (fun _ _ h => h) hb.negTrans r s h
  rcases hb.total (sel x r) (sel x s) (fun e => absurd (sel_injective x e) (ne_of_lt h)) with h1 | h1
  · exact h1
  · rw [hn] at h1; exact absurd h1 (by decide)

/-- Two relations that agree whenever the second argument comes earlier in the list sort the list alike. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Two relations that sort the positions alike have the same source position at every place. -/
theorem sortedFrom_congr_of_positions {n : Nat} (R R' : Fin n → Fin n → Bool) (e : sortPositions n R = sortPositions n R')
    (r : Fin n) : sortedFrom R r = sortedFrom R' r := by
  unfold sortedFrom
  rw [List.get_of_eq e]
  rfl

/-- A stable sort by "greater" ranks the positions as `sel` does. -/
theorem sortedFrom_eq_sel (x : Fin 32 → EReal) (R : Fin 32 → Fin 32 → Bool) (hR : ∀ a b, R a b = decide (x b < x a)) (r : Fin 32) :
    sortedFrom R r = sel x r := by
  have e : sortPositions 32 R = sortPositions 32 (before x) := by
    refine stableSort_congr_of_pairwise R (before x) _ ?_
    refine (List.pairwise_lt_finRange 32).imp fun {a b} hab => ?_
    have : decide (b < a) = false := decide_eq_false (not_lt_of_gt hab)
    simp [before, hR, this]
  exact sortedFrom_congr_of_positions R (before x) e r

/-- In a fold of an associative, commutative operation, a term that absorbs every other one and the start is the result. -/
theorem fold_eq_of_absorb {ι α : Type} [Fintype ι] [DecidableEq ι] (op : α → α → α) [Std.Commutative op] [Std.Associative op]
    (b : α) (f : ι → α) (p : ι) (hb : op (f p) b = f p) (hf : ∀ k, op (f p) (f k) = f p) :
    (Finset.univ : Finset ι).fold op b f = f p := by
  have key : ∀ s : Finset ι, op (f p) (s.fold op b f) = f p := by
    intro s
    induction s using Finset.induction_on with
    | empty => simpa using hb
    | insert a s ha ih =>
      rw [Finset.fold_insert ha, ← Std.Associative.assoc (op := op), hf, ih]
  have hu : (Finset.univ : Finset ι) = insert p (Finset.univ.erase p) := (Finset.insert_erase (Finset.mem_univ p)).symm
  rw [hu, Finset.fold_insert (Finset.notMem_erase p _)]
  exact key _

/-- A position outside the first `r` ranks does not exceed the one ranked `r`. -/
theorem le_sel (x : Fin 32 → EReal) (r k : Fin 32) (hk : ∀ s, s < r → sel x s ≠ k) : x k ≤ x (sel x r) := by
  obtain ⟨s, rfl⟩ := sel_surjective x k
  have hrs : r ≤ s := not_lt.mp fun h => hk s h rfl
  rcases eq_or_lt_of_le hrs with rfl | h
  · exact le_refl _
  · have := before_sel x r s h
    simp only [before, Bool.or_eq_true, decide_eq_true_eq, Bool.and_eq_true] at this
    rcases this with h1 | ⟨h1, _⟩
    · exact le_of_lt h1
    · exact le_of_eq h1.symm

/-- A position outside the first `r` ranks with the same entry as the one ranked `r` is not to the left of it. -/
theorem sel_le (x : Fin 32 → EReal) (r k : Fin 32) (hk : ∀ s, s < r → sel x s ≠ k) (he : x k = x (sel x r)) : sel x r ≤ k := by
  obtain ⟨s, rfl⟩ := sel_surjective x k
  have hrs : r ≤ s := not_lt.mp fun h => hk s h rfl
  rcases eq_or_lt_of_le hrs with rfl | h
  · exact le_refl _
  · have := before_sel x r s h
    simp only [before, Bool.or_eq_true, decide_eq_true_eq, Bool.and_eq_true] at this
    rcases this with h1 | ⟨_, h1⟩
    · exact absurd h1 (by rw [he]; exact lt_irrefl _)
    · exact le_of_lt h1

/-- With the first `r` ranks masked out by `⊥`, the row's maximum is the entry ranked `r`. -/
theorem max_masked (x : Fin 32 → EReal) (r : Fin 32) (T : Fin 32 → Prop) [DecidablePred T] (hT : ∀ k, T k ↔ ∃ s, s < r ∧ sel x s = k) :
    (Finset.univ : Finset (Fin 32)).fold max ⊥ (fun k => if T k then ⊥ else x k) = x (sel x r) := by
  have hp : ¬ T (sel x r) := by
    rw [hT]; rintro ⟨s, h, e⟩; exact absurd (sel_injective x e) (ne_of_lt h)
  have h := fold_eq_of_absorb max (⊥ : EReal) (fun k => if T k then ⊥ else x k) (sel x r)
    (by simp) (by
      intro k
      by_cases hk : T k
      · simp [hk]
      · simp only [if_neg hk, if_neg hp]
        refine max_eq_left (le_sel x r k fun s hs e => hk ((hT k).mpr ⟨s, hs, e⟩)))
  rw [h, if_neg hp]

/-- The order of the position words is the positions' own. -/
theorem minsi_ofNat (a b : Nat) (hab : a ≤ b) (hb : b ≤ 32) :
    IntOp.minsi (BitVec.ofNat 32 a) (BitVec.ofNat 32 b) = BitVec.ofNat 32 a := by
  have ha : a ≤ 32 := le_trans hab hb
  have e : ∀ n, n ≤ 32 → (BitVec.ofNat 32 n).toInt = n := by
    intro n hn
    have h1 : n % 2 ^ 32 = n := Nat.mod_eq_of_lt (by omega)
    rw [BitVec.toInt_eq_toNat_of_lt] <;> rw [BitVec.toNat_ofNat, h1]
    omega
  unfold IntOp.minsi
  by_cases h : (BitVec.ofNat 32 a).slt (BitVec.ofNat 32 b)
  · rw [if_pos h]
  · rw [if_neg h]
    simp only [BitVec.slt, e a ha, e b hb, decide_eq_true_eq] at h
    have : a = b := by omega
    rw [this]

/-- The least position, outside the first `r` ranks, at which the masked row attains its maximum is the one ranked `r`;
    positions that do not attain it count as 32. -/
theorem min_hit (x : Fin 32 → EReal) (r : Fin 32) (T : Fin 32 → Prop) [DecidablePred T] (hT : ∀ k, T k ↔ ∃ s, s < r ∧ sel x s = k) :
    (Finset.univ : Finset (Fin 32)).fold IntOp.minsi 2147483647#32
        (fun k => if x k = x (sel x r) ∧ ¬ T k then BitVec.ofNat 32 k.val else 32#32) = BitVec.ofNat 32 (sel x r).val := by
  have hp : ¬ T (sel x r) := by
    rw [hT]; rintro ⟨s, h, e⟩; exact absurd (sel_injective x e) (ne_of_lt h)
  have hl : (sel x r).val ≤ 32 := le_of_lt (sel x r).isLt
  have h := fold_eq_of_absorb IntOp.minsi (2147483647#32)
    (fun k : Fin 32 => if x k = x (sel x r) ∧ ¬ T k then BitVec.ofNat 32 k.val else 32#32) (sel x r)
    (by
      simp only [hp, not_false_eq_true, and_self, if_true]
      generalize sel x r = p
      revert p; decide)
    (by
      intro k
      simp only [hp, not_false_eq_true, and_self, if_true]
      by_cases hk : x k = x (sel x r) ∧ ¬ T k
      · rw [if_pos hk]
        exact minsi_ofNat _ _ (sel_le x r k (fun s hs e => hk.2 ((hT k).mpr ⟨s, hs, e⟩)) hk.1) (le_of_lt k.isLt)
      · rw [if_neg hk]
        exact minsi_ofNat _ 32 hl (le_refl _))
  rw [h]
  simp [hp]

end Cert.Moe

end
-- ==== Proof.Router.lean ====
module

public import proofs.«01_k».proof.Proof.Mirror
public import proofs.«01_k».proof.Proof.Top4
public import Idealize.ShloMosaic.Lib.IdealHost

/-!
The routing weights the kernel computes, read at an index over the extended reals.  Round `r` of the kernel's
selection finds the logit of rank `r` of each token; its weight is the softmax of the four largest logits.
-/

@[expose] public section

set_option maxRecDepth 16384

noncomputable section

namespace Cert.Moe

open Idealize.ShloMosaic Idealize.ShloMosaic.Tactic Cert.KernelIdeal Cert.KernelIdeal.Gen

variable (l : FVec Ideal S64x32 .f32) (t : Fin 64)

/-- The logits of one token. -/
def row (k : Fin 32) : EReal := l (ix2 t k)

/-- The word of negative infinity. -/
theorem ofBits_bot : Ideal.ofBits .f32 4286578688#32 = (⊥ : EReal) := by
  simp [Ideal.ofBits, Ideal.ieee]

/-- A one-bit select is a choice on the bit. -/
theorem select_ite {α : Type} (b : BitVec 1) (x y : α) : Scalar.select b x y = if b = 1#1 then x else y := by
  rcases BitVec.eq_zero_or_eq_one b with h | h <;> subst h <;> rfl

/-- The logits left to a round: those taken before are replaced by negative infinity. -/
theorem cand_apply (tk : IVec S64x32 1) (k : Fin 32) : cand l tk (ix2 t k) = if tk (ix2 t k) = 1#1 then ⊥ else row l t k := by
  pointwise [cand]
  rw [ofBits_bot, select_ite]
  rfl

/-- The largest logit left to a round. -/
theorem best_apply (tk : IVec S64x32 1) :
    best l tk (ix2 t 0) = Finset.univ.fold max ⊥ (fun k => if tk (ix2 t k) = 1#1 then ⊥ else row l t k) := by
  have h : best l tk (ix2 t 0) = Finset.univ.fold max ⊥ (fun k => cand l tk (ix2 t k)) := by
    unfold best
    generalize cand l tk = c
    pointwise
    rw [ofBits_bot]
  rw [h]
  simp only [cand_apply]

/-- The one-bit test a round picks with, as a choice. -/
theorem hit_select (p : Prop) [Decidable p] (b : BitVec 1) (x y : BitVec 32) :
    Scalar.select (IntOp.andi (BitVec.ofBool (decide p)) (IntOp.xori b 1#1)) x y = if p ∧ ¬ b = 1#1 then x else y := by
  rw [select_ite]
  by_cases hp : p <;> rcases BitVec.eq_zero_or_eq_one b with h | h <;> subst h <;> simp [hp, IntOp.andi, IntOp.xori]

/-- The positions taken before round `r` are those of smaller rank; the largest logit left has rank `r`; and the
    position picked is the one of rank `r`. -/
theorem best_of_taken (r : Fin 32) (tk : IVec S64x32 1)
    (hT : ∀ k : Fin 32, tk (ix2 t k) = 1#1 ↔ ∃ s, s < r ∧ sel (row l t) s = k) :
    best l tk (ix2 t 0) = row l t (sel (row l t) r) := by
  rw [best_apply]
  exact max_masked (row l t) r (fun k => tk (ix2 t k) = 1#1) hT

/-- The position a round picks, given which positions were taken before. -/
theorem pick_of_taken (r : Fin 32) (tk : IVec S64x32 1)
    (hT : ∀ k : Fin 32, tk (ix2 t k) = 1#1 ↔ ∃ s, s < r ∧ sel (row l t) s = k) (k : Fin 32) :
    pick l tk (ix2 t k) = BitVec.ofBool (decide (k = sel (row l t) r)) := by
  have h : pick l tk (ix2 t k) = IntOp.cmpi .eq (BitVec.ofNat 32 k.val)
      (Finset.univ.fold IntOp.minsi 2147483647#32 (fun x : Fin 32 =>
        if cand l tk (ix2 t x) = best l tk (ix2 t 0) ∧ ¬ tk (ix2 t x) = 1#1 then BitVec.ofNat 32 x.val else 32#32)) := by
    unfold pick
    generalize best l tk = b
    generalize cand l tk = c
    pointwise
    exact congrArg (IntOp.cmpi .eq (BitVec.ofNat 32 k.val))
      (congrArg (fun f : Fin 32 → BitVec 32 => Finset.univ.fold IntOp.minsi 2147483647#32 f) (funext fun x => hit_select _ _ _ _))
  have e : (fun x : Fin 32 => if cand l tk (ix2 t x) = best l tk (ix2 t 0) ∧ ¬ tk (ix2 t x) = 1#1 then BitVec.ofNat 32 x.val else 32#32)
      = fun x => if row l t x = row l t (sel (row l t) r) ∧ ¬ tk (ix2 t x) = 1#1 then BitVec.ofNat 32 x.val else 32#32 := by
    funext x
    rw [best_of_taken l t r tk hT, cand_apply]
    by_cases hx : tk (ix2 t x) = 1#1
    · simp [hx]
    · simp [hx]
  rw [h, e, min_hit (row l t) r (fun k => tk (ix2 t k) = 1#1) hT]
  show BitVec.ofBool (BitVec.ofNat 32 k.val == BitVec.ofNat 32 (sel (row l t) r).val) = _
  congr 1
  rw [Bool.eq_iff_iff]
  simp only [beq_iff_eq, decide_eq_true_eq]
  constructor
  · intro h
    have := congrArg BitVec.toNat h
    simp only [BitVec.toNat_ofNat] at this
    rw [Nat.mod_eq_of_lt (by have := k.isLt; omega), Nat.mod_eq_of_lt (by have := (sel (row l t) r).isLt; omega)] at this
    exact Fin.ext this
  · intro h; rw [h]

/-- The positions taken before round `r` are those of smaller rank. -/
theorem taken_iff : ∀ (r : ℕ) (hr : r < 32) (k : Fin 32), taken l r (ix2 t k) = 1#1 ↔ ∃ s, s < (⟨r, hr⟩ : Fin 32) ∧ sel (row l t) s = k
  | 0, hr, k => by
    have h : taken l 0 (ix2 t k) = 0#1 := by pointwise [taken]
    rw [h]
    constructor
    · intro h; exact absurd h (by decide)
    · rintro ⟨s, hs, _⟩; exact absurd hs (by simp [Fin.lt_def])
  | r + 1, hr, k => by
    have hr' : r < 32 := by omega
    have h : taken l (r + 1) (ix2 t k) = IntOp.ori (taken l r (ix2 t k)) (pick l (taken l r) (ix2 t k)) := rfl
    rw [h, pick_of_taken l t ⟨r, hr'⟩ (taken l r) (taken_iff r hr')]
    have ih := taken_iff r hr' k
    constructor
    · intro h1
      by_cases hk : k = sel (row l t) ⟨r, hr'⟩
      · exact ⟨⟨r, hr'⟩, by simp [Fin.lt_def], hk.symm⟩
      · rcases BitVec.eq_zero_or_eq_one (taken l r (ix2 t k)) with h0 | h0
        · rw [h0] at h1; simp [hk, IntOp.ori] at h1
        · obtain ⟨s, hs, e⟩ := ih.mp h0
          exact ⟨s, lt_trans hs (by simp [Fin.lt_def]), e⟩
    · rintro ⟨s, hs, e⟩
      by_cases hsr : s = ⟨r, hr'⟩
      · subst hsr
        rcases BitVec.eq_zero_or_eq_one (taken l r (ix2 t k)) with h0 | h0 <;> rw [h0] <;> simp [e, IntOp.ori]
      · have : s < (⟨r, hr'⟩ : Fin 32) := by
          simp only [Fin.lt_def, Fin.ext_iff] at hs hsr ⊢; omega
        rw [ih.mpr ⟨s, this, e⟩]
        by_cases hk : k = sel (row l t) ⟨r, hr'⟩ <;> simp [hk, IntOp.ori]

/-- The logit of rank `r` of a token's logits. -/
def top (x : Fin 32 → EReal) (r : Fin 32) : EReal := x (sel x r)

/-- The softmax denominator over the four largest logits. -/
def den (x : Fin 32 → EReal) : EReal :=
  Ideal.exp (top x 0 - top x 0) + Ideal.exp (top x 1 - top x 0) + Ideal.exp (top x 2 - top x 0) + Ideal.exp (top x 3 - top x 0)

/-- The routing weight of rank `r`. -/
def wt (x : Fin 32 → EReal) (r : Fin 32) : EReal := Ideal.div (Ideal.exp (top x r - top x 0)) (den x)

/-- The routing weight of one expert: that of its rank when it is among the first four, zero otherwise. -/
def gateOf (x : Fin 32 → EReal) (k : Fin 32) : EReal :=
  (((if k = sel x 0 then wt x 0 else 0) + (if k = sel x 1 then wt x 1 else 0)) + (if k = sel x 2 then wt x 2 else 0))
    + (if k = sel x 3 then wt x 3 else 0)

/-- A round's largest logit is the logit of its rank. -/
theorem best_taken (r : ℕ) (hr : r < 32) : best l (taken l r) (ix2 t 0) = top (row l t) ⟨r, hr⟩ :=
  best_of_taken l t ⟨r, hr⟩ _ (taken_iff l t r hr)

/-- The exponential of a round. -/
theorem expRank_apply (r : ℕ) (hr : r < 32) : expRank l r (ix2 t 0) = Ideal.exp (top (row l t) ⟨r, hr⟩ - top (row l t) 0) := by
  have h : expRank l r (ix2 t 0) = Ideal.exp (best l (taken l r) (ix2 t 0) - best l (taken l 0) (ix2 t 0)) := by
    unfold expRank
    generalize best l _ = b
    generalize best l _ = b'
    pointwise
  rw [h, best_taken l t r hr, best_taken l t 0 (by omega)]
  rfl

/-- The kernel's softmax denominator. -/
theorem denom_apply : denom l (ix2 t 0) = den (row l t) := by
  have h : denom l (ix2 t 0) = expRank l 0 (ix2 t 0) + expRank l 1 (ix2 t 0) + expRank l 2 (ix2 t 0) + expRank l 3 (ix2 t 0) := by
    unfold denom
    generalize expRank l 0 = b0
    generalize expRank l 1 = b1
    generalize expRank l 2 = b2
    generalize expRank l 3 = b3
    pointwise
  rw [h, expRank_apply l t 0 (by omega), expRank_apply l t 1 (by omega), expRank_apply l t 2 (by omega), expRank_apply l t 3 (by omega)]
  rfl

/-- The weights a round places. -/
theorem placed_apply (r : ℕ) (hr : r < 32) (k : Fin 32) :
    placed l r (ix2 t k) = if k = sel (row l t) ⟨r, hr⟩ then wt (row l t) ⟨r, hr⟩ else 0 := by
  have h : placed l r (ix2 t k) = Scalar.select (pick l (taken l r) (ix2 t k)) (Ideal.div (expRank l r (ix2 t 0)) (denom l (ix2 t 0))) 0 := by
    unfold placed
    generalize pick l _ = b
    generalize denom l = d
    generalize expRank l r = d
    pointwise
  rw [h, pick_of_taken l t ⟨r, hr⟩ _ (taken_iff l t r hr), expRank_apply l t r hr, denom_apply, select_ite]
  by_cases hk : k = sel (row l t) ⟨r, hr⟩ <;> simp [hk, wt]

/-- The kernel's routing weights. -/
theorem gatesOf_apply (k : Fin 32) : gatesOf l (ix2 t k) = gateOf (row l t) k := by
  have h : gatesOf l (ix2 t k) = placed l 0 (ix2 t k) + placed l 1 (ix2 t k) + placed l 2 (ix2 t k) + placed l 3 (ix2 t k) := by
    unfold gatesOf
    generalize placed l 0 = b0
    generalize placed l 1 = b1
    generalize placed l 2 = b2
    generalize placed l 3 = b3
    pointwise
  rw [h, placed_apply l t 0 (by omega), placed_apply l t 1 (by omega), placed_apply l t 2 (by omega), placed_apply l t 3 (by omega)]
  rfl

end Cert.Moe

end
-- ==== Proof.StepA.lean ====
module

public import proofs.«01_k».proof.Proof.Mirror
public meta import Idealize.ShloMosaic.Lib.Tactic.RunNames

/-! What the body leaves at the first point of the grid. -/

@[expose] public section

set_option maxRecDepth 16384

noncomputable section

namespace Cert.Moe

open Idealize.ShloMosaic Idealize.ShloMosaic.TcCoe Idealize.ShloMosaic.Tactic Cert.KernelIdeal Cert.KernelIdeal.Gen
open Idealize.SL Idealize.SL.RA Idealize.SL.BI Idealize.SL.Sem

variable {F : FTy → Type} [FloatOps F]

/-- The activations the first point rounds and keeps, read back. -/
theorem xbA (arg8 : Memref sig .tc .vmem S64x2048 .bf16) (c : Dev nD) (arg1 : Memref sig .tc .vmem S64x2048 .f32) (harg1 : arg1.IsWhole) (x0 : Vec F S64x2048 .f32) :
    arg8.view.readCov (kernelRun0_A.sl.HS0_1 c arg1 harg1 x0) (Rect.unit (s := S64x2048) ![0, 0] S64x2048.size inb_S64x2048_S64x2048_0_0).toLoadRect = k0_pay8 x0 := by
  unfold kernelRun0_A.sl.HS0_1
  simp only [↓readAt_whole2]
  exact readCov_whole2 _ _ _ _

/-- One row of the scale scratch at the first point. -/
theorem scA (arg11 : Memref sig .tc .vmem S192x256 .f32) (c : Dev nD) (arg4 : Memref sig .tc .vmem S1x16x2048 .bf16) (harg4 : arg4.IsWhole) (arg6 : Memref sig .tc .vmem S1x8x2048 .bf16) (harg6 : arg6.IsWhole) (x3 : Vec F S1x16x2048 .bf16) (x5 : Vec F S1x8x2048 .bf16) (r o : ℕ) (inb : ∀ a, (![r, o] : Fin 2 → ℕ) a + S1x128.size a ≤ S192x256.size a) :
    arg11.view.readCov (kernelRun0_A.sl.HS3_1 c arg4 harg4 arg6 harg6 x3 x5) (Rect.unit (s := S192x256) ![r, o] S1x128.size inb).toLoadRect = scRow (k0_pay40 x3 x5) r o := by
  unfold kernelRun0_A.sl.HS3_1
  sl_unfold_run_values
  simp only [↓readCov_scRow, ↓readAt_whole3]

/-- The hidden scratch read back at the first point. -/
theorem hA (arg12 : Memref sig .tc .vmem S256x256 .bf16) (c : Dev nD) (arg1 : Memref sig .tc .vmem S64x2048 .f32) (harg1 : arg1.IsWhole) (arg3 : Memref sig .tc .vmem S1x2048x1024 .i8) (harg3 : arg3.IsWhole) (arg4 : Memref sig .tc .vmem S1x16x2048 .bf16) (harg4 : arg4.IsWhole) (arg6 : Memref sig .tc .vmem S1x8x2048 .bf16) (harg6 : arg6.IsWhole) (arg8 : Memref sig .tc .vmem S64x2048 .bf16) (arg11 : Memref sig .tc .vmem S192x256 .f32) (x0 : Vec F S64x2048 .f32) (x2 : Vec F S1x2048x1024 .i8) (x3 : Vec F S1x16x2048 .bf16) (x5 : Vec F S1x8x2048 .bf16) :
    arg12.view.readCov (kernelRun0_A.sl.HS4_4 c arg1 harg1 arg3 harg3 arg4 harg4 arg6 harg6 arg8 arg11 x0 x2 x3 x5)
      (Rect.unit (s := S256x256) ![0, 0] S256x256.size inb_S256x256_S256x256_0_0).toLoadRect = hScratch (k0_pay8 x0) x2 (k0_pay40 x3 x5) := by
  unfold kernelRun0_A.sl.HS4_4
  sl_unfold_run_values
  simp only [↓xbA, ↓scA, ↓readAt_guCols]
  refine Eq.trans ?_ (readCov_hScratch arg12.view (k0_pay8 x0) x2 (k0_pay40 x3 x5) inb_S256x256_S64x256_0_0 inb_S256x256_S64x256_64_0 inb_S256x256_S64x256_128_0 inb_S256x256_S64x256_192_0 inb_S256x256_S256x256_0_0)
  sl_kernel_rfl

/-- The stores of the routing weights at the first point. -/
theorem gatesCanonA (c : Dev nD) (arg1 : Memref sig .tc .vmem S64x2048 .f32) (harg1 : arg1.IsWhole) (arg2 : Memref sig .tc .vmem S2048x32 .f32) (harg2 : arg2.IsWhole) (x0 : Vec F S64x2048 .f32) (x1 : Vec F S2048x32 .f32) :
    View.canon (kernelRun0_A.sl.HS1_1 c arg1 harg1 arg2 harg2 x0 x1) = gatesOf (k0_pay9 x0 x1) := by
  unfold kernelRun0_A.sl.HS1_1
  sl_unfold_run_values
  simp only [↓readAt_whole2]
  refine Eq.trans ?_ (canon_whole2 inb_S64x32_S64x32_0_0 (gatesOf (k0_pay9 x0 x1)))
  sl_kernel_rfl

/-- The routing weights read back at the first point. -/
theorem gatesA (arg9 : Memref sig .tc .vmem S64x32 .f32) (c : Dev nD) (arg1 : Memref sig .tc .vmem S64x2048 .f32) (harg1 : arg1.IsWhole) (arg2 : Memref sig .tc .vmem S2048x32 .f32) (harg2 : arg2.IsWhole) (x0 : Vec F S64x2048 .f32) (x1 : Vec F S2048x32 .f32) :
    arg9.view.readCov (kernelRun0_A.sl.HS1_1 c arg1 harg1 arg2 harg2 x0 x1) (Rect.unit (s := S64x32) ![0, 0] S64x32.size inb_S64x32_S64x32_0_0).toLoadRect = gatesOf (k0_pay9 x0 x1) := by
  rw [View.readCov_eq_canon', gatesCanonA]
  funext j
  exact congrArg _ ((idx_unit2 inb_S64x32_S64x32_0_0 j (j 0) (j 1) (Nat.zero_add _).symm (Nat.zero_add _).symm).trans (by funext i; fin_cases i <;> rfl))

/-- The activations the first point leaves. -/
theorem soutA0 (c : Dev nD) (i : grid0.Coords) (arg1 : Memref sig .tc .vmem S64x2048 .f32) (harg1 : arg1.IsWhole) (arg2 : Memref sig .tc .vmem S2048x32 .f32) (harg2 : arg2.IsWhole) (arg3 : Memref sig .tc .vmem S1x2048x1024 .i8) (harg3 : arg3.IsWhole) (arg4 : Memref sig .tc .vmem S1x16x2048 .bf16) (harg4 : arg4.IsWhole) (arg5 : Memref sig .tc .vmem S1x1024x1024 .i8) (harg5 : arg5.IsWhole) (arg6 : Memref sig .tc .vmem S1x8x2048 .bf16) (harg6 : arg6.IsWhole) (arg7 : Memref sig .tc .vmem S64x2048 .f32) (harg7 : arg7.IsWhole) (arg8 : Memref sig .tc .vmem S64x2048 .bf16) (harg8 : arg8.IsWhole) (arg9 : Memref sig .tc .vmem S64x32 .f32) (harg9 : arg9.IsWhole) (arg10 : Memref sig .tc .vmem S64x2048 .f32) (harg10 : arg10.IsWhole) (arg11 : Memref sig .tc .vmem S192x256 .f32) (harg11 : arg11.IsWhole) (arg12 : Memref sig .tc .vmem S256x256 .bf16) (harg12 : arg12.IsWhole) (hc0 : cond0_0 i) (hc1 : ¬cond0_1 i) (x0 : Vec F S64x2048 .f32) (x1 : Vec F S2048x32 .f32) (x2 : Vec F S1x2048x1024 .i8) (x3 : Vec F S1x16x2048 .bf16) (x4 : Vec F S1x1024x1024 .i8) (x5 : Vec F S1x8x2048 .bf16) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay8 x0 := by
  unfold sout0_A_0
  rw [View.read_writes_junk_eq_canon]
  unfold kernelRun0_A
  dsimp only
  unfold kernelRun0_A.sl.HS0_1
  simp only [↓readAt_whole2]
  exact canon_whole2 _ _

/-- The routing weights the first point leaves. -/
theorem soutA1 (c : Dev nD) (i : grid0.Coords) (arg1 : Memref sig .tc .vmem S64x2048 .f32) (harg1 : arg1.IsWhole) (arg2 : Memref sig .tc .vmem S2048x32 .f32) (harg2 : arg2.IsWhole) (arg3 : Memref sig .tc .vmem S1x2048x1024 .i8) (harg3 : arg3.IsWhole) (arg4 : Memref sig .tc .vmem S1x16x2048 .bf16) (harg4 : arg4.IsWhole) (arg5 : Memref sig .tc .vmem S1x1024x1024 .i8) (harg5 : arg5.IsWhole) (arg6 : Memref sig .tc .vmem S1x8x2048 .bf16) (harg6 : arg6.IsWhole) (arg7 : Memref sig .tc .vmem S64x2048 .f32) (harg7 : arg7.IsWhole) (arg8 : Memref sig .tc .vmem S64x2048 .bf16) (harg8 : arg8.IsWhole) (arg9 : Memref sig .tc .vmem S64x32 .f32) (harg9 : arg9.IsWhole) (arg10 : Memref sig .tc .vmem S64x2048 .f32) (harg10 : arg10.IsWhole) (arg11 : Memref sig .tc .vmem S192x256 .f32) (harg11 : arg11.IsWhole) (arg12 : Memref sig .tc .vmem S256x256 .bf16) (harg12 : arg12.IsWhole) (hc0 : cond0_0 i) (hc1 : ¬cond0_1 i) (x0 : Vec F S64x2048 .f32) (x1 : Vec F S2048x32 .f32) (x2 : Vec F S1x2048x1024 .i8) (x3 : Vec F S1x16x2048 .bf16) (x4 : Vec F S1x1024x1024 .i8) (x5 : Vec F S1x8x2048 .bf16) :
    sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = gatesOf (k0_pay9 x0 x1) := by
  unfold sout0_A_1
  rw [View.read_writes_junk_eq_canon]
  unfold kernelRun0_A
  dsimp only
  exact gatesCanonA c arg1 harg1 arg2 harg2 x0 x1

/-- The accumulator the first point leaves: the step from zero. -/
theorem soutA2 (c : Dev nD) (i : grid0.Coords) (arg1 : Memref sig .tc .vmem S64x2048 .f32) (harg1 : arg1.IsWhole) (arg2 : Memref sig .tc .vmem S2048x32 .f32) (harg2 : arg2.IsWhole) (arg3 : Memref sig .tc .vmem S1x2048x1024 .i8) (harg3 : arg3.IsWhole) (arg4 : Memref sig .tc .vmem S1x16x2048 .bf16) (harg4 : arg4.IsWhole) (arg5 : Memref sig .tc .vmem S1x1024x1024 .i8) (harg5 : arg5.IsWhole) (arg6 : Memref sig .tc .vmem S1x8x2048 .bf16) (harg6 : arg6.IsWhole) (arg7 : Memref sig .tc .vmem S64x2048 .f32) (harg7 : arg7.IsWhole) (arg8 : Memref sig .tc .vmem S64x2048 .bf16) (harg8 : arg8.IsWhole) (arg9 : Memref sig .tc .vmem S64x32 .f32) (harg9 : arg9.IsWhole) (arg10 : Memref sig .tc .vmem S64x2048 .f32) (harg10 : arg10.IsWhole) (arg11 : Memref sig .tc .vmem S192x256 .f32) (harg11 : arg11.IsWhole) (arg12 : Memref sig .tc .vmem S256x256 .bf16) (harg12 : arg12.IsWhole) (hc0 : cond0_0 i) (hc1 : ¬cond0_1 i) (x0 : Vec F S64x2048 .f32) (x1 : Vec F S2048x32 .f32) (x2 : Vec F S1x2048x1024 .i8) (x3 : Vec F S1x16x2048 .bf16) (x4 : Vec F S1x1024x1024 .i8) (x5 : Vec F S1x8x2048 .bf16) :
    sout0_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = accNew i (k0_pay8 x0) (gatesOf (k0_pay9 x0 x1)) k0_pay39 x2 x3 x4 x5 := by
  unfold sout0_A_2
  rw [View.read_writes_junk_eq_canon]
  unfold kernelRun0_A
  dsimp only
  unfold kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  sl_unfold_run_values
  unfold kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  simp (decide := true) only [↓View.readCov_skip, ↓readCov_fillCols, ↓readCov_fillCols', ↓xbA, ↓scA, ↓hA, ↓gatesA, ↓readAt_dnCols]
  refine Eq.trans ?_ (canon_ofBlocks (accBlock (k0_pay202 (BitVec.ofNat 32 ↑(i 0)) (gatesOf (k0_pay9 x0 x1))) (hNat (k0_pay8 x0) x2 (k0_pay40 x3 x5)) x4 (k0_pay40 x3 x5) k0_pay39)
    [⟨Rect.unit (s := S64x2048) ![0, 0] S64x2048.size inb_S64x2048_S64x2048_0_0, k0_pay39⟩]
    inb_S64x2048_S64x128_0_0 inb_S64x2048_S64x128_0_128 inb_S64x2048_S64x128_0_256 inb_S64x2048_S64x128_0_384 inb_S64x2048_S64x128_0_512 inb_S64x2048_S64x128_0_640 inb_S64x2048_S64x128_0_768 inb_S64x2048_S64x128_0_896 inb_S64x2048_S64x128_0_1024 inb_S64x2048_S64x128_0_1152 inb_S64x2048_S64x128_0_1280 inb_S64x2048_S64x128_0_1408 inb_S64x2048_S64x128_0_1536 inb_S64x2048_S64x128_0_1664 inb_S64x2048_S64x128_0_1792 inb_S64x2048_S64x128_0_1920)
  sl_kernel_rfl

end Cert.Moe

end
-- ==== Proof.StepB.lean ====
module

public import proofs.«01_k».proof.Proof.Mirror
public meta import Idealize.ShloMosaic.Lib.Tactic.RunNames

/-! What the body leaves at a middle point of the grid. -/

@[expose] public section

set_option maxRecDepth 16384

noncomputable section

namespace Cert.Moe

open Idealize.ShloMosaic Idealize.ShloMosaic.TcCoe Idealize.ShloMosaic.Tactic Cert.KernelIdeal Cert.KernelIdeal.Gen
open Idealize.SL Idealize.SL.RA Idealize.SL.BI Idealize.SL.Sem

variable {F : FTy → Type} [FloatOps F]

/-- The hidden scratch read back at a middle point. -/
theorem hB (c : Dev nD) (arg3 : Memref sig .tc .vmem S1x2048x1024 .i8) (harg3 : arg3.IsWhole) (arg4 : Memref sig .tc .vmem S1x16x2048 .bf16) (harg4 : arg4.IsWhole)
    (arg6 : Memref sig .tc .vmem S1x8x2048 .bf16) (harg6 : arg6.IsWhole) (arg8 : Memref sig .tc .vmem S64x2048 .bf16) (harg8 : arg8.IsWhole)
    (arg11 : Memref sig .tc .vmem S192x256 .f32) (arg12 : Memref sig .tc .vmem S256x256 .bf16) (x2 : Vec F S1x2048x1024 .i8) (x3 : Vec F S1x16x2048 .bf16) (x5 : Vec F S1x8x2048 .bf16) (xs0 : Vec F S64x2048 .bf16) :
    arg12.view.readCov (kernelRun0_B.sl.HS4_4 c arg3 harg3 arg4 harg4 arg6 harg6 arg8 harg8 arg11 x2 x3 x5 xs0)
      (Rect.unit (s := S256x256) ![0, 0] S256x256.size inb_S256x256_S256x256_0_0).toLoadRect = hScratch xs0 x2 (k0_pay40 x3 x5) := by
  unfold kernelRun0_B.sl.HS4_4
  sl_unfold_run_values
  unfold kernelRun0_B.sl.HS3_1
  sl_unfold_run_values
  simp only [↓readCov_scRow, ↓readAt_guCols, ↓readAt_whole2, ↓readAt_whole3]
  refine Eq.trans ?_ (readCov_hScratch arg12.view xs0 x2 (k0_pay40 x3 x5) inb_S256x256_S64x256_0_0 inb_S256x256_S64x256_64_0 inb_S256x256_S64x256_128_0 inb_S256x256_S64x256_192_0 inb_S256x256_S256x256_0_0)
  sl_kernel_rfl

/-- The accumulator a middle point leaves. -/
theorem accB (c : Dev nD) (i : grid0.Coords) (arg1 : Memref sig .tc .vmem S64x2048 .f32) (harg1 : arg1.IsWhole) (arg2 : Memref sig .tc .vmem S2048x32 .f32) (harg2 : arg2.IsWhole) (arg3 : Memref sig .tc .vmem S1x2048x1024 .i8) (harg3 : arg3.IsWhole) (arg4 : Memref sig .tc .vmem S1x16x2048 .bf16) (harg4 : arg4.IsWhole) (arg5 : Memref sig .tc .vmem S1x1024x1024 .i8) (harg5 : arg5.IsWhole) (arg6 : Memref sig .tc .vmem S1x8x2048 .bf16) (harg6 : arg6.IsWhole) (arg7 : Memref sig .tc .vmem S64x2048 .f32) (harg7 : arg7.IsWhole) (arg8 : Memref sig .tc .vmem S64x2048 .bf16) (harg8 : arg8.IsWhole) (arg9 : Memref sig .tc .vmem S64x32 .f32) (harg9 : arg9.IsWhole) (arg10 : Memref sig .tc .vmem S64x2048 .f32) (harg10 : arg10.IsWhole) (arg11 : Memref sig .tc .vmem S192x256 .f32) (harg11 : arg11.IsWhole) (arg12 : Memref sig .tc .vmem S256x256 .bf16) (harg12 : arg12.IsWhole) (hc0 : ¬cond0_0 i) (hc1 : ¬cond0_1 i) (x0 : Vec F S64x2048 .f32) (x1 : Vec F S2048x32 .f32) (x2 : Vec F S1x2048x1024 .i8) (x3 : Vec F S1x16x2048 .bf16) (x4 : Vec F S1x1024x1024 .i8) (x5 : Vec F S1x8x2048 .bf16) (xs0 : Vec F S64x2048 .bf16) (xs1 : Vec F S64x32 .f32) (xs2 : Vec F S64x2048 .f32) :
    sout0_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = accNew i xs0 xs1 xs2 x2 x3 x4 x5 := by
  unfold sout0_B_2
  rw [View.read_writes_junk_eq_canon]
  unfold kernelRun0_B
  dsimp only
  sl_unfold_run_values
  unfold kernelRun0_B.sl.HS3_1
  sl_unfold_run_values
  simp only [↓hB, ↓readCov_scRow, ↓readAt_dnCols, ↓readAt_accCols, ↓readAt_accCols', ↓readAt_whole2, ↓readAt_whole3]
  refine Eq.trans ?_ (canon_ofBlocks (accBlock (k0_pay202 (BitVec.ofNat 32 ↑(i 0)) xs1) (hNat xs0 x2 (k0_pay40 x3 x5)) x4 (k0_pay40 x3 x5) xs2) []
    inb_S64x2048_S64x128_0_0 inb_S64x2048_S64x128_0_128 inb_S64x2048_S64x128_0_256 inb_S64x2048_S64x128_0_384 inb_S64x2048_S64x128_0_512 inb_S64x2048_S64x128_0_640 inb_S64x2048_S64x128_0_768 inb_S64x2048_S64x128_0_896 inb_S64x2048_S64x128_0_1024 inb_S64x2048_S64x128_0_1152 inb_S64x2048_S64x128_0_1280 inb_S64x2048_S64x128_0_1408 inb_S64x2048_S64x128_0_1536 inb_S64x2048_S64x128_0_1664 inb_S64x2048_S64x128_0_1792 inb_S64x2048_S64x128_0_1920)
  sl_kernel_rfl

end Cert.Moe

end
-- ==== Proof.StepC.lean ====
module

public import proofs.«01_k».proof.Proof.Mirror
public meta import Idealize.ShloMosaic.Lib.Tactic.RunNames

/-! What the body leaves at the last point of the grid. -/

@[expose] public section

set_option maxRecDepth 16384

noncomputable section

namespace Cert.Moe

open Idealize.ShloMosaic Idealize.ShloMosaic.TcCoe Idealize.ShloMosaic.Tactic Cert.KernelIdeal Cert.KernelIdeal.Gen
open Idealize.SL Idealize.SL.RA Idealize.SL.BI Idealize.SL.Sem

variable {F : FTy → Type} [FloatOps F]

/-- The hidden scratch read back at the last point. -/
theorem hC (c : Dev nD) (arg3 : Memref sig .tc .vmem S1x2048x1024 .i8) (harg3 : arg3.IsWhole) (arg4 : Memref sig .tc .vmem S1x16x2048 .bf16) (harg4 : arg4.IsWhole)
    (arg6 : Memref sig .tc .vmem S1x8x2048 .bf16) (harg6 : arg6.IsWhole) (arg8 : Memref sig .tc .vmem S64x2048 .bf16) (harg8 : arg8.IsWhole)
    (arg11 : Memref sig .tc .vmem S192x256 .f32) (arg12 : Memref sig .tc .vmem S256x256 .bf16) (x2 : Vec F S1x2048x1024 .i8) (x3 : Vec F S1x16x2048 .bf16) (x5 : Vec F S1x8x2048 .bf16) (xs0 : Vec F S64x2048 .bf16) :
    arg12.view.readCov (kernelRun0_C.sl.HS4_4 c arg3 harg3 arg4 harg4 arg6 harg6 arg8 harg8 arg11 x2 x3 x5 xs0)
      (Rect.unit (s := S256x256) ![0, 0] S256x256.size inb_S256x256_S256x256_0_0).toLoadRect = hScratch xs0 x2 (k0_pay40 x3 x5) := by
  unfold kernelRun0_C.sl.HS4_4
  sl_unfold_run_values
  unfold kernelRun0_C.sl.HS3_1
  sl_unfold_run_values
  simp only [↓readCov_scRow, ↓readAt_guCols, ↓readAt_whole2, ↓readAt_whole3]
  refine Eq.trans ?_ (readCov_hScratch arg12.view xs0 x2 (k0_pay40 x3 x5) inb_S256x256_S64x256_0_0 inb_S256x256_S64x256_64_0 inb_S256x256_S64x256_128_0 inb_S256x256_S64x256_192_0 inb_S256x256_S256x256_0_0)
  sl_kernel_rfl

/-- The stores of the last point into the accumulator leave the new accumulator. -/
theorem accC (c : Dev nD) (i : grid0.Coords) (arg3 : Memref sig .tc .vmem S1x2048x1024 .i8) (harg3 : arg3.IsWhole) (arg4 : Memref sig .tc .vmem S1x16x2048 .bf16) (harg4 : arg4.IsWhole) (arg5 : Memref sig .tc .vmem S1x1024x1024 .i8) (harg5 : arg5.IsWhole) (arg6 : Memref sig .tc .vmem S1x8x2048 .bf16) (harg6 : arg6.IsWhole) (arg8 : Memref sig .tc .vmem S64x2048 .bf16) (harg8 : arg8.IsWhole) (arg9 : Memref sig .tc .vmem S64x32 .f32) (harg9 : arg9.IsWhole) (arg10 : Memref sig .tc .vmem S64x2048 .f32) (harg10 : arg10.IsWhole) (arg11 : Memref sig .tc .vmem S192x256 .f32) (arg12 : Memref sig .tc .vmem S256x256 .bf16) (x2 : Vec F S1x2048x1024 .i8) (x3 : Vec F S1x16x2048 .bf16) (x4 : Vec F S1x1024x1024 .i8) (x5 : Vec F S1x8x2048 .bf16) (xs0 : Vec F S64x2048 .bf16) (xs1 : Vec F S64x32 .f32) (xs2 : Vec F S64x2048 .f32) :
    View.canon (kernelRun0_C.sl.HS2_16 c i arg3 harg3 arg4 harg4 arg5 harg5 arg6 harg6 arg8 harg8 arg9 harg9 arg10 harg10 arg11 arg12 x2 x3 x4 x5 xs0 xs1 xs2) = accNew i xs0 xs1 xs2 x2 x3 x4 x5 := by
  unfold kernelRun0_C.sl.HS2_16
  sl_unfold_run_values
  unfold kernelRun0_C.sl.HS3_1
  sl_unfold_run_values
  simp only [↓hC, ↓readCov_scRow, ↓readAt_dnCols, ↓readAt_accCols, ↓readAt_accCols', ↓readAt_whole2, ↓readAt_whole3]
  refine Eq.trans ?_ (canon_ofBlocks (accBlock (k0_pay202 (BitVec.ofNat 32 ↑(i 0)) xs1) (hNat xs0 x2 (k0_pay40 x3 x5)) x4 (k0_pay40 x3 x5) xs2) []
    inb_S64x2048_S64x128_0_0 inb_S64x2048_S64x128_0_128 inb_S64x2048_S64x128_0_256 inb_S64x2048_S64x128_0_384 inb_S64x2048_S64x128_0_512 inb_S64x2048_S64x128_0_640 inb_S64x2048_S64x128_0_768 inb_S64x2048_S64x128_0_896 inb_S64x2048_S64x128_0_1024 inb_S64x2048_S64x128_0_1152 inb_S64x2048_S64x128_0_1280 inb_S64x2048_S64x128_0_1408 inb_S64x2048_S64x128_0_1536 inb_S64x2048_S64x128_0_1664 inb_S64x2048_S64x128_0_1792 inb_S64x2048_S64x128_0_1920)
  sl_kernel_rfl

/-- The result the last point writes. -/
theorem outC (c : Dev nD) (i : grid0.Coords) (arg1 : Memref sig .tc .vmem S64x2048 .f32) (harg1 : arg1.IsWhole) (arg2 : Memref sig .tc .vmem S2048x32 .f32) (harg2 : arg2.IsWhole) (arg3 : Memref sig .tc .vmem S1x2048x1024 .i8) (harg3 : arg3.IsWhole) (arg4 : Memref sig .tc .vmem S1x16x2048 .bf16) (harg4 : arg4.IsWhole) (arg5 : Memref sig .tc .vmem S1x1024x1024 .i8) (harg5 : arg5.IsWhole) (arg6 : Memref sig .tc .vmem S1x8x2048 .bf16) (harg6 : arg6.IsWhole) (arg7 : Memref sig .tc .vmem S64x2048 .f32) (harg7 : arg7.IsWhole) (arg8 : Memref sig .tc .vmem S64x2048 .bf16) (harg8 : arg8.IsWhole) (arg9 : Memref sig .tc .vmem S64x32 .f32) (harg9 : arg9.IsWhole) (arg10 : Memref sig .tc .vmem S64x2048 .f32) (harg10 : arg10.IsWhole) (arg11 : Memref sig .tc .vmem S192x256 .f32) (harg11 : arg11.IsWhole) (arg12 : Memref sig .tc .vmem S256x256 .bf16) (harg12 : arg12.IsWhole) (hc0 : ¬cond0_0 i) (hc1 : cond0_1 i) (x0 : Vec F S64x2048 .f32) (x1 : Vec F S2048x32 .f32) (x2 : Vec F S1x2048x1024 .i8) (x3 : Vec F S1x16x2048 .bf16) (x4 : Vec F S1x1024x1024 .i8) (x5 : Vec F S1x8x2048 .bf16) (xs0 : Vec F S64x2048 .bf16) (xs1 : Vec F S64x32 .f32) (xs2 : Vec F S64x2048 .f32) :
    out0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = outNew (accNew i xs0 xs1 xs2 x2 x3 x4 x5) := by
  have hl := readCov_accCols2 arg10.view _ _ (accC c i arg3 harg3 arg4 harg4 arg5 harg5 arg6 harg6 arg8 harg8 arg9 harg9 arg10 harg10 arg11 arg12 x2 x3 x4 x5 xs0 xs1 xs2)
  have hl' (o : ℕ) (inb : ∀ a, (![0, o] : Fin 2 → ℕ) a + (![64, 256] : Fin 2 → ℕ) a ≤ S64x2048.size a) := hl o inb
  unfold out0_C_6
  rw [View.read_writes_junk_eq_canon]
  unfold kernelRun0_C
  dsimp only
  sl_unfold_run_values
  simp only [↓hl, ↓hl']
  refine Eq.trans ?_ (canon_outNew (accNew i xs0 xs1 xs2 x2 x3 x4 x5)
    inb_S64x2048_S64x256_0_0 inb_S64x2048_S64x256_0_256 inb_S64x2048_S64x256_0_512 inb_S64x2048_S64x256_0_768 inb_S64x2048_S64x256_0_1024 inb_S64x2048_S64x256_0_1280 inb_S64x2048_S64x256_0_1536 inb_S64x2048_S64x256_0_1792)
  sl_kernel_rfl

end Cert.Moe

end
-- ==== Proof.Fold.lean ====
module

public import proofs.«01_k».proof.Proof.Blocks
public import proofs.«01_k».proof.Proof.Router
public import proofs.«01_k».proof.Proof.StepA
public import proofs.«01_k».proof.Proof.StepB
public import proofs.«01_k».proof.Proof.StepC

/-!
The kernel's result at an index: the fold over the grid's points is the sum over the experts.
-/

@[expose] public section

set_option maxRecDepth 16384

noncomputable section

namespace Cert.Moe

open Idealize.ShloMosaic Idealize.ShloMosaic.Tactic Idealize.ShloMosaic.TcCoe Idealize.SL.Sem Cert.KernelIdeal Cert.KernelIdeal.Gen
open Cert.KernelIdeal.Value (stAt0 stAt0_A stAt0_B stAt0_C junk0 G6 G6_last)

section Generic

variable {F : FTy → Type} [FloatOps F] (m : (ℓ : Loc nD τ sig) → Buf (Elt F) ℓ) (c : Dev nD)

/-- The contents carried from point to point: the result's window and the three scratches. -/
abbrev St (F : FTy → Type) [FloatOps F] : Type := Vec F S64x2048 .f32 × Vec F S64x2048 .bf16 × Vec F S64x32 .f32 × Vec F S64x2048 .f32

/-- The scratches after the first point. -/
theorem stA (t : Fin cfg0.N) (a : St F) (h0 : t.val % 32 = 0) (h1 : ¬t.val % 32 = 31) :
    (stAt0 m c t.val t.isLt a).2 = (k0_pay8 (iblk m c 0 t), gatesOf (k0_pay9 (iblk m c 0 t) (iblk m c 1 t)),
      accNew (grid0.coords t) (k0_pay8 (iblk m c 0 t)) (gatesOf (k0_pay9 (iblk m c 0 t) (iblk m c 1 t))) k0_pay39
        (iblk m c 2 t) (iblk m c 3 t) (iblk m c 4 t) (iblk m c 5 t)) := by
  rw [stAt0_A m c t a h0 h1]
  dsimp only
  rw [soutA0, soutA1, soutA2]

/-- The scratches after a middle point. -/
theorem stB (t : Fin cfg0.N) (a : St F) (h0 : ¬t.val % 32 = 0) (h1 : ¬t.val % 32 = 31) :
    (stAt0 m c t.val t.isLt a).2 = (a.2.1, a.2.2.1,
      accNew (grid0.coords t) a.2.1 a.2.2.1 a.2.2.2 (iblk m c 2 t) (iblk m c 3 t) (iblk m c 4 t) (iblk m c 5 t)) := by
  rw [stAt0_B m c t a h0 h1]
  dsimp only
  rw [accB]
  rfl

/-- The result's window after the last point. -/
theorem stC (t : Fin cfg0.N) (a : St F) (h0 : ¬t.val % 32 = 0) (h1 : t.val % 32 = 31) :
    (stAt0 m c t.val t.isLt a).1 = outNew
      (accNew (grid0.coords t) a.2.1 a.2.2.1 a.2.2.2 (iblk m c 2 t) (iblk m c 3 t) (iblk m c 4 t) (iblk m c 5 t)) := by
  rw [stAt0_C m c t a h0 h1]
  dsimp only
  rw [outC]

end Generic

variable (m : (ℓ : Loc nD τ sig) → Buf (Elt Ideal) ℓ) (c : Dev nD)

/-- The tokens as a matrix. -/
def xmat : FVec Ideal S64x2048 .f32 := shapeCast S64x2048 (m ((c : Thread nD τ).loc main_arg0)) shapeCasts_S64x1x2048_S64x2048

/-- The router logits. -/
def lgts : FVec Ideal S64x32 .f32 := k0_pay9 (xmat m c) (m ((c : Thread nD τ).loc main_arg1))

/-- One expert's contribution to a result. -/
def contrib (t : Fin 64) (n : Fin 2048) (e : Fin 32) : EReal :=
  gatesOf (lgts m c) (ix2 t e) * expertOut (k0_pay8 (xmat m c)) (part (m ((c : Thread nD τ).loc main_arg2)) e)
    (part (m ((c : Thread nD τ).loc main_arg3)) e) (part (m ((c : Thread nD τ).loc main_arg4)) e) (part (m ((c : Thread nD τ).loc main_arg5)) e) t n

/-- One point's step adds its expert's contribution. -/
theorem step (p : Fin cfg0.N) (e : Fin 32) (h : p.val = e.val) (acc : Vec Ideal S64x2048 .f32) (t : Fin 64) (n : Fin 2048) :
    accNew (grid0.coords p) (k0_pay8 (xmat m c)) (gatesOf (lgts m c)) acc (iblk m c 2 p) (iblk m c 3 p) (iblk m c 4 p) (iblk m c 5 p) (ix2 t n)
      = acc (ix2 t n) + contrib m c t (accCol n) e := by
  rw [accNew_apply (grid0.coords p) e ((coord_eq p).trans h), blk2 m c p e h, blk3 m c p e h, blk4 m c p e h, blk5 m c p e h]
  rfl

/-- The contributions by point number. -/
def contribAt (t : Fin 64) (n : Fin 2048) (k : ℕ) : EReal := if h : k < 32 then contrib m c t n ⟨k, h⟩ else 0

/-- The accumulator's first contents. -/
theorem zero_apply (t : Fin 64) (n : Fin 2048) : (k0_pay39 : FVec Ideal S64x2048 .f32) (ix2 t n) = 0 := by
  unfold k0_pay39
  pointwise

/-- The scratches after point `n`: the tokens, the routing weights, and the sum of the contributions so far. -/
theorem fold_eq : ∀ (n : ℕ) (h : 0 + n < cfg0.N), n < 31 →
    (Pipeline.accAt (fun n h => stAt0 m c n h junk0) (stAt0 m c) 0 n h).2.1 = (k0_pay8 (F := Ideal) (xmat m c) : FVec Ideal S64x2048 .bf16)
    ∧ (Pipeline.accAt (fun n h => stAt0 m c n h junk0) (stAt0 m c) 0 n h).2.2.1 = gatesOf (lgts m c)
    ∧ ∀ (t : Fin 64) (j : Fin 2048), (Pipeline.accAt (fun n h => stAt0 m c n h junk0) (stAt0 m c) 0 n h).2.2.2 (ix2 t j)
        = ∑ k ∈ Finset.range (n + 1), contribAt m c t (accCol j) k
  | 0, h, _ => by
    have e := stA m c ⟨0, lt_of_le_of_lt (Nat.zero_le _) h⟩ junk0 rfl (by show ¬0 % 32 = 31; decide)
    rw [blk0, blk1] at e
    rw [Pipeline.accAt_zero]
    have e1 := congrArg Prod.fst e
    have e2 := congrArg (fun s => s.2.1) e
    have e3 := congrArg (fun s => s.2.2) e
    refine ⟨e1, e2, fun t j => ?_⟩
    refine (congrFun e3 (ix2 t j)).trans ?_
    refine (step m c ⟨0, lt_of_le_of_lt (Nat.zero_le _) h⟩ 0 rfl (k0_pay39 (F := Ideal)) t j).trans ?_
    rw [zero_apply, zero_add, Finset.sum_range_one]
    rfl
  | n + 1, h, hn => by
    obtain ⟨i1, i2, i3⟩ := fold_eq n (Nat.lt_of_succ_lt h) (by omega)
    rw [Pipeline.accAt_succ]
    generalize Pipeline.accAt (fun n h => stAt0 m c n h junk0) (stAt0 m c) 0 n (Nat.lt_of_succ_lt h) = a at i1 i2 i3 ⊢
    have e := stB m c ⟨0 + (n + 1), h⟩ a (by show ¬(0 + (n + 1)) % 32 = 0; omega) (by show ¬(0 + (n + 1)) % 32 = 31; omega)
    rw [i1, i2] at e
    have e1 := congrArg Prod.fst e
    have e2 := congrArg (fun s => s.2.1) e
    have e3 := congrArg (fun s => s.2.2) e
    refine ⟨e1, e2, fun t j => ?_⟩
    refine (congrFun e3 (ix2 t j)).trans ?_
    refine (step m c ⟨0 + (n + 1), h⟩ ⟨n + 1, by omega⟩ (Nat.zero_add _) a.2.2.2 t j).trans ?_
    rw [i3, Finset.sum_range_succ _ (n + 1)]
    unfold contribAt
    rw [dif_pos (show n + 1 < 32 by omega)]

/-- The kernel's result at an index: the sum of the experts' contributions. -/
theorem kernel_apply (t : Fin 64) (n : Fin 2048) : (G6 m c : Vec Ideal S64x2048 .f32) (ix2 t n) = ∑ e : Fin 32, contrib m c t n e := by
  have hN : 0 + 30 < cfg0.N := lt_of_lt_of_eq (by decide) N_0.symm
  have hN' : 0 + (30 + 1) < cfg0.N := lt_of_lt_of_eq (by decide) N_0.symm
  obtain ⟨i1, i2, i3⟩ := fold_eq m c 30 hN (by omega)
  have e0 : G6 m c = (stAt0 m c (0 + (30 + 1)) hN' (Pipeline.accAt (fun n h => stAt0 m c n h junk0) (stAt0 m c) 0 30 hN)).1 :=
    (G6_last m c).trans (congrArg Prod.fst (Pipeline.accAt_succ _ _ 0 30 hN'))
  generalize Pipeline.accAt (fun n h => stAt0 m c n h junk0) (stAt0 m c) 0 30 hN = a at i1 i2 i3 e0
  have e := stC m c ⟨0 + (30 + 1), hN'⟩ a (by show ¬(0 + (30 + 1)) % 32 = 0; omega) (by show (0 + (30 + 1)) % 32 = 31; omega)
  rw [i1, i2] at e
  refine (congrFun (e0.trans e) (ix2 t n)).trans ?_
  refine (outNew_apply _ t n).trans ?_
  refine (step m c ⟨0 + (30 + 1), hN'⟩ 31 rfl a.2.2.2 t (outCol n)).trans ?_
  rw [i3, accCol_outCol, ← Fin.sum_univ_eq_sum_range, Fin.sum_univ_castSucc (n := 31)]
  refine congrArg₂ (· + ·) (Finset.sum_congr rfl fun k _ => ?_) rfl
  unfold contribAt
  rw [dif_pos (show k.val < 32 by omega)]
  rfl

end Cert.Moe

end
-- ==== Proof.RefMirror.lean ====
module

public import proofs.«01_k».proof.Proof.Gen.ReferenceIdeal.Run

/-!
The reference's result as a composition of named parts, one per stage of the computation.
-/

@[expose] public section

set_option maxRecDepth 16384

noncomputable section

namespace Cert.Moe.Ref

open Idealize.ShloMosaic Idealize.ShloMosaic.TcCoe Idealize.SL.Sem Cert.ReferenceIdeal Cert.ReferenceIdeal.Gen

variable {F : FTy → Type} [FloatOps F]

/-- The tokens as a matrix. -/
def toks (x : FVec F S64x1x2048 .f32) : FVec F S64x2048 .f32 := shapeCast _ x shapeCasts_S64x1x2048_S64x2048

/-- The router logits. -/
def logits (x : FVec F S64x2048 .f32) (w : FVec F S2048x32 .f32) : FVec F S64x32 .f32 :=
  Host.dotGeneral dot_S64x2048_S2048x32_S64x32_1_0_0_1_n_n none x w

/-- The four largest logits of each token. -/
def vals (l : FVec F S64x32 .f32) : FVec F S64x4 .f32 := (Host.topK S64x4 1 (FloatOps.cmpfTotal .gt) l sliceFits_S64x32_S64x4).1

/-- Their positions. -/
def idxs (l : FVec F S64x32 .f32) : IVec S64x4 32 := (Host.topK S64x4 1 (FloatOps.cmpfTotal .gt) l sliceFits_S64x32_S64x4).2

/-- The softmax's shift: the largest of the four. -/
def shift (v : FVec F S64x4 .f32) : FVec F S64 .f32 :=
  maximumf (broadcastInDim S64 ![] bcast_S_S64 (constant S_ .f32 0xFF800000#32))
    (Host.reduce FloatOps.maximumf v (constant S_ .f32 0xFF800000#32) reducesTo_S64x4_S64_d1 h_S_)

/-- The softmax's exponentials. -/
def exps (v : FVec F S64x4 .f32) : FVec F S64x4 .f32 :=
  Host.exp (subf v (broadcastInDim S64x4 ![0, 1] bcast_S64x1_S64x4_0_1 (broadcastInDim S64x1 ![0] bcast_S64_S64x1_0 (shift v))))

/-- The softmax weights from the exponentials. -/
def wts (e : FVec F S64x4 .f32) : FVec F S64x4 .f32 :=
  Host.divf e (broadcastInDim S64x4 ![0, 1] bcast_S64x1_S64x4_0_1 (broadcastInDim S64x1 ![0] bcast_S64_S64x1_0
    (Host.reduceAdd e (constant S_ .f32 0x00000000#32) reducesTo_S64x4_S64_d1 h_S_)))

/-- The weights placed at their experts and summed over the four ranks. -/
def gates (i : IVec S64x4 32) (w : FVec F S64x4 .f32) : FVec F S64x32 .f32 :=
  Host.reduceAdd (mulf (uitofp .f32 (cmpi .eq
      (broadcastInDim S64x4x32 ![0, 1, 2] bcast_S64x4x1_S64x4x32_0_1_2 (broadcastInDim S64x4x1 ![0, 1] bcast_S64x4_S64x4x1_0_1 i))
      (broadcastInDim S64x4x32 ![0, 1, 2] bcast_S1x1x32_S64x4x32_0_1_2 (iotaInDim S1x1x32 32 2))))
      (broadcastInDim S64x4x32 ![0, 1, 2] bcast_S64x4x1_S64x4x32_0_1_2 (broadcastInDim S64x4x1 ![0, 1] bcast_S64x4_S64x4x1_0_1 w)))
    (constant S_ .f32 0x00000000#32) reducesTo_S64x4x32_S64x32_d1 h_S_

/-- The two nibbles of each byte of the gate and up weights. -/
def guNibs (b : IVec S32x2048x1024 8) : IVec S32x2048x1024x2 32 :=
  concatenate S32x2048x1024x2 3
    [⟨S32x2048x1024x1, (broadcastInDim S32x2048x1024x1 ![0, 1, 2] bcast_S32x2048x1024_S32x2048x1024x1_0_1_2
        (andi (extui 32 b natLt_8_32) (broadcastInDim S32x2048x1024 ![] bcast_S_S32x2048x1024 (constantI S_ 32 15#32))))⟩,
     ⟨S32x2048x1024x1, (broadcastInDim S32x2048x1024x1 ![0, 1, 2] bcast_S32x2048x1024_S32x2048x1024x1_0_1_2
        (andi (Host.shrsi (extui 32 b natLt_8_32) (broadcastInDim S32x2048x1024 ![] bcast_S_S32x2048x1024 (constantI S_ 32 4#32)))
          (broadcastInDim S32x2048x1024 ![] bcast_S_S32x2048x1024 (constantI S_ 32 15#32))))⟩]
    concatenates_S32x2048x1024x1_S32x2048x1024x1_S32x2048x1024x2_d3

/-- The codes of the gate and up weights from the nibbles. -/
def guInts (p : IVec S32x2048x1024x2 32) : IVec S32x2048x2048 8 :=
  shapeCast _ (trunci 8 (select (cmpi .sge p (broadcastInDim S32x2048x1024x2 ![] bcast_S_S32x2048x1024x2 (constantI S_ 32 8#32)))
    (subi p (broadcastInDim S32x2048x1024x2 ![] bcast_S_S32x2048x1024x2 (constantI S_ 32 16#32))) p) natLt_8_32)
    shapeCasts_S32x2048x1024x2_S32x2048x2048

/-- The gate and up weights from the codes and the scales. -/
def guWts (q : IVec S32x2048x2048 8) (s : FVec F S32x16x2048 .bf16) : FVec F S32x2048x2048 .bf16 :=
  shapeCast _ (mulf (shapeCast _ (sitofp .bf16 (extsi 32 q natLt_8_32) : FVec F S32x2048x2048 .bf16) shapeCasts_S32x2048x2048_S32x16x128x2048)
    (broadcastInDim S32x16x128x2048 ![0, 1, 2, 3] bcast_S32x16x1x2048_S32x16x128x2048_0_1_2_3
      (broadcastInDim S32x16x1x2048 ![0, 1, 3] bcast_S32x16x2048_S32x16x1x2048_0_1_3 s))) shapeCasts_S32x16x128x2048_S32x2048x2048

/-- The gate and up projections of every token through every expert. -/
def proj (w : FVec F S32x2048x2048 .bf16) (x : FVec F S64x2048 .f32) : FVec F S32x64x2048 .f32 :=
  transpose S32x64x2048 [0, 2, 1] (Host.dotGeneral dot_S32x2048x2048_S64x2048_S32x2048x64_1_1_02_0_n_n none w
    (truncf .bf16 x bitsLt_bf16_f32)) transposes_S32x2048x64_S32x64x2048_0_2_1

/-- The hidden layer from the projections. -/
def hidden (p : FVec F S32x64x2048 .f32) : FVec F S32x64x1024 .bf16 :=
  truncf .bf16 (mulf (mulf (extractStridedSlice S32x64x1024 ![0, 0, 0] p slices_S32x64x2048_S32x64x1024_0_0_0)
      (Host.divf (broadcastInDim S32x64x1024 ![] bcast_S_S32x64x1024 (constant S_ .f32 0x3F800000#32))
        (addf (broadcastInDim S32x64x1024 ![] bcast_S_S32x64x1024 (constant S_ .f32 0x3F800000#32))
          (Host.exp (Host.negf (extractStridedSlice S32x64x1024 ![0, 0, 0] p slices_S32x64x2048_S32x64x1024_0_0_0))))))
    (extractStridedSlice S32x64x1024 ![0, 0, 1024] p slices_S32x64x2048_S32x64x1024_0_0_1024)) bitsLt_bf16_f32

/-- The two nibbles of each byte of the down weights. -/
def dnNibs (b : IVec S32x1024x1024 8) : IVec S32x1024x1024x2 32 :=
  concatenate S32x1024x1024x2 3
    [⟨S32x1024x1024x1, (broadcastInDim S32x1024x1024x1 ![0, 1, 2] bcast_S32x1024x1024_S32x1024x1024x1_0_1_2
        (andi (extui 32 b natLt_8_32) (broadcastInDim S32x1024x1024 ![] bcast_S_S32x1024x1024 (constantI S_ 32 15#32))))⟩,
     ⟨S32x1024x1024x1, (broadcastInDim S32x1024x1024x1 ![0, 1, 2] bcast_S32x1024x1024_S32x1024x1024x1_0_1_2
        (andi (Host.shrsi (extui 32 b natLt_8_32) (broadcastInDim S32x1024x1024 ![] bcast_S_S32x1024x1024 (constantI S_ 32 4#32)))
          (broadcastInDim S32x1024x1024 ![] bcast_S_S32x1024x1024 (constantI S_ 32 15#32))))⟩]
    concatenates_S32x1024x1024x1_S32x1024x1024x1_S32x1024x1024x2_d3

/-- The codes of the down weights from the nibbles. -/
def dnInts (p : IVec S32x1024x1024x2 32) : IVec S32x1024x2048 8 :=
  shapeCast _ (trunci 8 (select (cmpi .sge p (broadcastInDim S32x1024x1024x2 ![] bcast_S_S32x1024x1024x2 (constantI S_ 32 8#32)))
    (subi p (broadcastInDim S32x1024x1024x2 ![] bcast_S_S32x1024x1024x2 (constantI S_ 32 16#32))) p) natLt_8_32)
    shapeCasts_S32x1024x1024x2_S32x1024x2048

/-- The down weights from the codes and the scales. -/
def dnWts (q : IVec S32x1024x2048 8) (s : FVec F S32x8x2048 .bf16) : FVec F S32x1024x2048 .bf16 :=
  shapeCast _ (mulf (shapeCast _ (sitofp .bf16 (extsi 32 q natLt_8_32) : FVec F S32x1024x2048 .bf16) shapeCasts_S32x1024x2048_S32x8x128x2048)
    (broadcastInDim S32x8x128x2048 ![0, 1, 2, 3] bcast_S32x8x1x2048_S32x8x128x2048_0_1_2_3
      (broadcastInDim S32x8x1x2048 ![0, 1, 3] bcast_S32x8x2048_S32x8x1x2048_0_1_3 s))) shapeCasts_S32x8x128x2048_S32x1024x2048

/-- The experts' outputs. -/
def outs (h : FVec F S32x64x1024 .bf16) (w : FVec F S32x1024x2048 .bf16) : FVec F S32x64x2048 .f32 :=
  Host.dotGeneral dot_S32x64x1024_S32x1024x2048_S32x64x2048_2_1_1_2_0_0 none h w

/-- The outputs combined by the routing weights. -/
def combine (g : FVec F S64x32 .f32) (o : FVec F S32x64x2048 .f32) : FVec F S64x2048 .f32 :=
  Host.dotGeneral dot_S64x32_S32x64x2048_S64x2048_1_0_n_2_0_1 none g o

/-- The whole reference. -/
def whole (a0 : FVec F S64x1x2048 .f32) (a1 : FVec F S2048x32 .f32) (a2 : IVec S32x2048x1024 8) (a3 : FVec F S32x16x2048 .bf16)
    (a4 : IVec S32x1024x1024 8) (a5 : FVec F S32x8x2048 .bf16) : FVec F S64x2048 .f32 :=
  combine (gates (idxs (logits (toks a0) a1)) (wts (exps (vals (logits (toks a0) a1)))))
    (outs (hidden (proj (guWts (guInts (guNibs a2)) a3) (toks a0))) (dnWts (dnInts (dnNibs a4)) a5))

/-- The reference's result is the composition. -/
theorem res_eq (m : (ℓ : Loc nD τ sig) → Buf (Elt F) ℓ) (c : Dev nD) :
    Cert.ReferenceIdeal.Value.res_main_v75 m c
      = whole (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v75 whole combine outs gates idxs wts exps shift vals logits hidden proj guWts guInts guNibs dnWts dnInts dnNibs toks
  rfl

end Cert.Moe.Ref

end
-- ==== Proof.RefRead.lean ====
module

public import proofs.«01_k».proof.Proof.RefMirror
public import proofs.«01_k».proof.Proof.Router
public import proofs.«01_k».proof.Proof.Expert

/-!
The parts of the reference read at an index over the extended reals.
-/

@[expose] public section

set_option maxRecDepth 16384

noncomputable section

namespace Cert.Moe.Ref

open Idealize.ShloMosaic Idealize.ShloMosaic.Tactic Cert.ReferenceIdeal Cert.ReferenceIdeal.Gen

/-- The largest of four. -/
theorem shift_apply (v : FVec Ideal S64x4 .f32) (t : Fin 64) :
    shift v (ix1 t) = Finset.univ.fold max ⊥ (fun r : Fin 4 => v (ix2 t r)) := by
  pointwise [shift]
  rw [ofBits_bot]
  exact max_eq_right bot_le

/-- The shifted exponentials. -/
theorem exps_apply (v : FVec Ideal S64x4 .f32) (t : Fin 64) (r : Fin 4) : exps v (ix2 t r) = Ideal.exp (v (ix2 t r) - shift v (ix1 t)) := by
  unfold exps
  generalize shift v = s
  pointwise

/-- The exponentials over their sum. -/
theorem wts_apply (e : FVec Ideal S64x4 .f32) (t : Fin 64) (r : Fin 4) : wts e (ix2 t r) = Ideal.div (e (ix2 t r)) (∑ s, e (ix2 t s)) := by
  pointwise [wts]

/-- The positions along a row. -/
theorem along_row (t : Fin 64) (a k : Fin 32) : (ix2 t a : S64x32.Idx).along 1 k = ix2 t k := by
  funext b
  fin_cases b <;> rfl

/-- A stable sort of a row by "greater" ranks it. -/
theorem sorted_row (l : FVec Ideal S64x32 .f32) (t : Fin 64) (a r : Fin 32) :
    sortedFrom (fun k k' : Fin 32 => FloatOps.cmpfTotal .gt (l ((ix2 t a : S64x32.Idx).along 1 k)) (l ((ix2 t a : S64x32.Idx).along 1 k')) == 1#1) r
      = sel (row l t) r := by
  refine sortedFrom_eq_sel (row l t) _ (fun b b' => ?_) r
  rw [along_row, along_row]
  show (BitVec.ofBool (decide (row l t b' < row l t b)) == 1#1) = _
  by_cases h : row l t b' < row l t b <;> simp [h]

/-- The rank of a token's logit decides where it stands among the four. -/
theorem vals_apply (l : FVec Ideal S64x32 .f32) (t : Fin 64) (r : Fin 4) : vals l (ix2 t r) = top (row l t) ⟨r.val, by omega⟩ := by
  have h : vals l (ix2 t r) = l ((ix2 t ⟨r.val, by omega⟩ : S64x32.Idx).along 1 (sortedFrom (fun k k' : Fin 32 =>
      FloatOps.cmpfTotal .gt (l ((ix2 t ⟨r.val, by omega⟩ : S64x32.Idx).along 1 k)) (l ((ix2 t ⟨r.val, by omega⟩ : S64x32.Idx).along 1 k')) == 1#1)
      (⟨r.val, by omega⟩ : Fin 32))) := by
    pointwise [vals, Host.topK, Host.sort2]
  refine h.trans ((congrArg (fun q : Fin 32 => l ((ix2 t ⟨r.val, by omega⟩ : S64x32.Idx).along 1 q))
    (sorted_row l t ⟨r.val, by omega⟩ ⟨r.val, by omega⟩)).trans (congrArg l (along_row t _ _)))

/-- The positions of the four. -/
theorem idxs_apply (l : FVec Ideal S64x32 .f32) (t : Fin 64) (r : Fin 4) :
    idxs l (ix2 t r) = BitVec.ofNat 32 (sel (row l t) ⟨r.val, by omega⟩).val := by
  have h : idxs l (ix2 t r) = BitVec.ofNat 32 (((ix2 t ⟨r.val, by omega⟩ : S64x32.Idx).along 1 (sortedFrom (fun k k' : Fin 32 =>
      FloatOps.cmpfTotal .gt (l ((ix2 t ⟨r.val, by omega⟩ : S64x32.Idx).along 1 k)) (l ((ix2 t ⟨r.val, by omega⟩ : S64x32.Idx).along 1 k')) == 1#1)
      (⟨r.val, by omega⟩ : Fin 32))) 1).val := by
    pointwise [idxs, Host.topK, Host.sort2]
  have key : ∀ a q : Fin 32, BitVec.ofNat 32 (((ix2 t a : S64x32.Idx).along 1 q) 1).val = BitVec.ofNat 32 q.val := by
    intro a q
    rw [along_row]
    rfl
  exact h.trans ((key _ _).trans (congrArg (fun q : Fin 32 => BitVec.ofNat 32 q.val)
    (sorted_row l t ⟨r.val, by omega⟩ ⟨r.val, by omega⟩)))

/-- A one-hot entry times a weight. -/
theorem hot_mul (a k : Fin 32) (w : EReal) :
    (FloatOps.uitofp .f32 (IntOp.cmpi .eq (BitVec.ofNat 32 a.val) (BitVec.ofNat 32 k.val)) : Ideal .f32) * w = if k = a then w else 0 := by
  have h : IntOp.cmpi .eq (BitVec.ofNat 32 a.val) (BitVec.ofNat 32 k.val) = if k = a then 1#1 else 0#1 := by
    have := a.isLt
    have := k.isLt
    by_cases hk : k = a
    · subst hk; simp [IntOp.cmpi]
    · have hn : BitVec.ofNat 32 a.val ≠ BitVec.ofNat 32 k.val := by
        intro e
        have e := congrArg BitVec.toNat e
        simp only [BitVec.toNat_ofNat] at e
        rw [Nat.mod_eq_of_lt (by omega), Nat.mod_eq_of_lt (by omega)] at e
        exact hk (Fin.ext e.symm)
      rw [if_neg hk]
      show BitVec.ofBool (BitVec.ofNat 32 a.val == BitVec.ofNat 32 k.val) = 0#1
      rw [beq_eq_false_iff_ne.mpr hn]
      rfl
  rw [h]
  by_cases hk : k = a
  · rw [if_pos hk, if_pos hk]
    show ((((1#1 : BitVec 1).toNat : ℝ)) : EReal) * w = w
    simp
  · rw [if_neg hk, if_neg hk]
    show ((((0#1 : BitVec 1).toNat : ℝ)) : EReal) * w = 0
    simp

/-- The reference's routing weights. -/
theorem gates_apply (l : FVec Ideal S64x32 .f32) (t : Fin 64) (k : Fin 32) :
    gates (idxs l) (wts (exps (vals l))) (ix2 t k) = gateOf (row l t) k := by
  have h : ∀ (i : IVec S64x4 32) (w : FVec Ideal S64x4 .f32), gates i w (ix2 t k)
      = ∑ x : Fin 4, (FloatOps.uitofp .f32 (IntOp.cmpi .eq (i (ix2 t x)) (BitVec.ofNat 32 k.val)) : Ideal .f32) * w (ix2 t x) := by
    intro i w
    pointwise [gates]
  have hs : shift (vals l) (ix1 t) = top (row l t) 0 := by
    rw [shift_apply]
    simp only [vals_apply]
    refine fold_eq_of_absorb max (⊥ : EReal) (fun r : Fin 4 => top (row l t) ⟨r.val, by omega⟩) 0 (max_eq_left bot_le) fun r => max_eq_left ?_
    exact le_sel (row l t) 0 _ fun s hs => absurd hs (by simp)
  have he : ∀ r : Fin 4, exps (vals l) (ix2 t r) = Ideal.exp (top (row l t) ⟨r.val, by omega⟩ - top (row l t) 0) := by
    intro r
    rw [exps_apply, hs, vals_apply]
  have hw : ∀ r : Fin 4, wts (exps (vals l)) (ix2 t r) = wt (row l t) ⟨r.val, by omega⟩ := by
    intro r
    rw [wts_apply, Fin.sum_univ_four, he, he, he, he, he]
    rfl
  rw [h]
  simp only [idxs_apply, hw, hot_mul]
  rw [Fin.sum_univ_four]
  rfl

/-- The router logits. -/
theorem logits_apply (x : FVec Ideal S64x2048 .f32) (w : FVec Ideal S2048x32 .f32) (t : Fin 64) (k : Fin 32) :
    logits x w (ix2 t k) = ∑ d : Fin 2048, x (ix2 t d) * w (ix2 d k) := by
  pointwise [logits]

/-- A projection is a product summed over the model dimension. -/
theorem proj_apply (w : FVec Ideal S32x2048x2048 .bf16) (x : FVec Ideal S64x2048 .f32) (e : Fin 32) (t : Fin 64) (n : Fin 2048) :
    proj w x (ix3 e t n) = ∑ k : Fin 2048, w (ix3 e k n) * x (ix2 t k) := by
  pointwise [proj]

/-- The hidden layer. -/
theorem hidden_apply (p : FVec Ideal S32x64x2048 .f32) (e : Fin 32) (t : Fin 64) (f : Fin 1024) :
    hidden p (ix3 e t f) = swiglu (p (ix3 e t ⟨f.val, by omega⟩)) (p (ix3 e t ⟨1024 + f.val, by omega⟩)) := by
  pointwise [hidden]
  rfl

/-- An expert's output is a product summed over the hidden dimension. -/
theorem outs_apply (h : FVec Ideal S32x64x1024 .bf16) (w : FVec Ideal S32x1024x2048 .bf16) (e : Fin 32) (t : Fin 64) (n : Fin 2048) :
    outs h w (ix3 e t n) = ∑ f : Fin 1024, h (ix3 e t f) * w (ix3 e f n) := by
  pointwise [outs]

/-- The result is the weighted sum over the experts. -/
theorem combine_apply (g : FVec Ideal S64x32 .f32) (o : FVec Ideal S32x64x2048 .f32) (t : Fin 64) (n : Fin 2048) :
    combine g o (ix2 t n) = ∑ e : Fin 32, g (ix2 t e) * o (ix3 e t n) := by
  pointwise [combine]

/-- A code widened to a float. -/
theorem sitofp_signExtend (b : BitVec 8) : (FloatOps.sitofp .bf16 (BitVec.signExtend 32 b) : Ideal .bf16) = ((b.toInt : ℝ) : EReal) := by
  show (((BitVec.signExtend 32 b).toInt : ℝ) : EReal) = _
  rw [toInt_signExtend_8_32]

/-- The gate and up weights. -/
theorem guWts_apply (q : IVec S32x2048x2048 8) (s : FVec Ideal S32x16x2048 .bf16) (e : Fin 32) (k n : Fin 2048) :
    guWts q s (ix3 e k n) = (((q (ix3 e k n)).toInt : ℝ) : EReal) * s (ix3 e ⟨k.val / 128, by omega⟩ n) := by
  pointwise [guWts]
  rw [sitofp_signExtend]

/-- The down weights. -/
theorem dnWts_apply (q : IVec S32x1024x2048 8) (s : FVec Ideal S32x8x2048 .bf16) (e : Fin 32) (k : Fin 1024) (n : Fin 2048) :
    dnWts q s (ix3 e k n) = (((q (ix3 e k n)).toInt : ℝ) : EReal) * s (ix3 e ⟨k.val / 128, by omega⟩ n) := by
  pointwise [dnWts]
  rw [sitofp_signExtend]

/-- The gate and up codes from the nibbles. -/
theorem guInts_apply (p : IVec S32x2048x1024x2 32) (e : Fin 32) (k n : Fin 2048) :
    guInts p (ix3 e k n) = (Scalar.select (IntOp.cmpi .sge (p (ix4 e k ⟨n.val / 2, by omega⟩ ⟨n.val % 2, by omega⟩)) 8#32)
        (IntOp.subi (p (ix4 e k ⟨n.val / 2, by omega⟩ ⟨n.val % 2, by omega⟩)) 16#32) (p (ix4 e k ⟨n.val / 2, by omega⟩ ⟨n.val % 2, by omega⟩))).setWidth 8 := by
  pointwise [guInts]

/-- The down codes from the nibbles. -/
theorem dnInts_apply (p : IVec S32x1024x1024x2 32) (e : Fin 32) (k : Fin 1024) (n : Fin 2048) :
    dnInts p (ix3 e k n) = (Scalar.select (IntOp.cmpi .sge (p (ix4 e k ⟨n.val / 2, by omega⟩ ⟨n.val % 2, by omega⟩)) 8#32)
        (IntOp.subi (p (ix4 e k ⟨n.val / 2, by omega⟩ ⟨n.val % 2, by omega⟩)) 16#32) (p (ix4 e k ⟨n.val / 2, by omega⟩ ⟨n.val % 2, by omega⟩))).setWidth 8 := by
  pointwise [dnInts]

/-- The codes of the gate and up weights, as integers. -/
theorem guCode (b : IVec S32x2048x1024 8) (e : Fin 32) (k n : Fin 2048) :
    (guInts (guNibs b) (ix3 e k n)).toInt = nib (b (ix3 e k ⟨n.val / 2, by omega⟩)) ⟨n.val % 2, by omega⟩ := by
  have h0 : ∀ j : Fin 1024, guNibs b (ix4 e k j 0) = IntOp.andi ((b (ix3 e k j)).setWidth 32) 15#32 := by
    intro j; pointwise [guNibs]
  have h1 : ∀ j : Fin 1024, guNibs b (ix4 e k j 1) = IntOp.andi (IntOp.shrsi .host ((b (ix3 e k j)).setWidth 32) 4#32) 15#32 := by
    intro j; pointwise [guNibs]
  rw [guInts_apply]
  generalize (⟨n.val / 2, by omega⟩ : Fin 1024) = j
  generalize (⟨n.val % 2, by omega⟩ : Fin 2) = par
  fin_cases par
  · show (BitVec.setWidth 8 (Scalar.select (IntOp.cmpi .sge (guNibs b (ix4 e k j 0)) 8#32) (IntOp.subi (guNibs b (ix4 e k j 0)) 16#32) (guNibs b (ix4 e k j 0)))).toInt = nib _ 0
    rw [h0]
    exact nib_ref_lo _
  · show (BitVec.setWidth 8 (Scalar.select (IntOp.cmpi .sge (guNibs b (ix4 e k j 1)) 8#32) (IntOp.subi (guNibs b (ix4 e k j 1)) 16#32) (guNibs b (ix4 e k j 1)))).toInt = nib _ 1
    rw [h1]
    exact nib_ref_hi _

/-- The codes of the down weights, as integers. -/
theorem dnCode (b : IVec S32x1024x1024 8) (e : Fin 32) (k : Fin 1024) (n : Fin 2048) :
    (dnInts (dnNibs b) (ix3 e k n)).toInt = nib (b (ix3 e k ⟨n.val / 2, by omega⟩)) ⟨n.val % 2, by omega⟩ := by
  have h0 : ∀ j : Fin 1024, dnNibs b (ix4 e k j 0) = IntOp.andi ((b (ix3 e k j)).setWidth 32) 15#32 := by
    intro j; pointwise [dnNibs]
  have h1 : ∀ j : Fin 1024, dnNibs b (ix4 e k j 1) = IntOp.andi (IntOp.shrsi .host ((b (ix3 e k j)).setWidth 32) 4#32) 15#32 := by
    intro j; pointwise [dnNibs]
  rw [dnInts_apply]
  generalize (⟨n.val / 2, by omega⟩ : Fin 1024) = j
  generalize (⟨n.val % 2, by omega⟩ : Fin 2) = par
  fin_cases par
  · show (BitVec.setWidth 8 (Scalar.select (IntOp.cmpi .sge (dnNibs b (ix4 e k j 0)) 8#32) (IntOp.subi (dnNibs b (ix4 e k j 0)) 16#32) (dnNibs b (ix4 e k j 0)))).toInt = nib _ 0
    rw [h0]
    exact nib_ref_lo _
  · show (BitVec.setWidth 8 (Scalar.select (IntOp.cmpi .sge (dnNibs b (ix4 e k j 1)) 8#32) (IntOp.subi (dnNibs b (ix4 e k j 1)) 16#32) (dnNibs b (ix4 e k j 1)))).toInt = nib _ 1
    rw [h1]
    exact nib_ref_hi _

/-- The experts' outputs of the reference, by the same functions the kernel's are read with. -/
theorem outs_eq (x : FVec Ideal S64x2048 .f32) (a2 : IVec S32x2048x1024 8) (a3 : FVec Ideal S32x16x2048 .bf16)
    (a4 : IVec S32x1024x1024 8) (a5 : FVec Ideal S32x8x2048 .bf16) (e : Fin 32) (t : Fin 64) (n : Fin 2048) :
    outs (hidden (proj (guWts (guInts (guNibs a2)) a3) x)) (dnWts (dnInts (dnNibs a4)) a5) (ix3 e t n)
      = expertOut x (part a2 e) (part a3 e) (part a4 e) (part a5 e) t n := by
  have hp : ∀ n : Fin 2048, proj (guWts (guInts (guNibs a2)) a3) x (ix3 e t n) = gu x (part a2 e) (part a3 e) t n := by
    intro n
    rw [proj_apply]
    refine Finset.sum_congr rfl fun k _ => ?_
    rw [guWts_apply, guCode, mul_comm]
    rfl
  rw [outs_apply]
  refine Finset.sum_congr rfl fun f _ => ?_
  rw [hidden_apply, hp, hp, dnWts_apply, dnCode]
  rfl

/-- The reference at an index. -/
theorem whole_apply (a0 : FVec Ideal S64x1x2048 .f32) (a1 : FVec Ideal S2048x32 .f32) (a2 : IVec S32x2048x1024 8)
    (a3 : FVec Ideal S32x16x2048 .bf16) (a4 : IVec S32x1024x1024 8) (a5 : FVec Ideal S32x8x2048 .bf16) (t : Fin 64) (n : Fin 2048) :
    whole a0 a1 a2 a3 a4 a5 (ix2 t n) = ∑ e : Fin 32, gateOf (row (logits (toks a0) a1) t) e
      * expertOut (toks a0) (part a2 e) (part a3 e) (part a4 e) (part a5 e) t n := by
  unfold whole
  rw [combine_apply]
  refine Finset.sum_congr rfl fun e _ => ?_
  rw [gates_apply, outs_eq]

end Cert.Moe.Ref

end
-- ==== Proof.Tie.lean ====
module

public import proofs.«01_k».proof.Proof.Fold
public import proofs.«01_k».proof.Proof.RefRead

/-!
The kernel's result is the reference's, over the extended reals, from memories that agree on the arguments.
-/

@[expose] public section

set_option maxRecDepth 16384

noncomputable section

namespace Cert.Moe

open Idealize.ShloMosaic Idealize.ShloMosaic.Tactic Idealize.ShloMosaic.TcCoe Idealize.SL.Sem
open Cert.KernelIdeal Cert.KernelIdeal.Gen

/-- Rounding the tokens to the narrow format changes no real value. -/
theorem pay8_eq (x : FVec Ideal S64x2048 .f32) (j : S64x2048.Idx) : (k0_pay8 (F := Ideal) x : FVec Ideal S64x2048 .bf16) j = x j := by
  unfold k0_pay8 k0_pay7
  pointwise

/-- The kernel's logits at an index. -/
theorem pay9_apply (x : FVec Ideal S64x2048 .f32) (w : FVec Ideal S2048x32 .f32) (t : Fin 64) (k : Fin 32) :
    (k0_pay9 (F := Ideal) x w : FVec Ideal S64x32 .f32) (ix2 t k) = ∑ d : Fin 2048, x (ix2 t d) * w (ix2 d k) := by
  unfold k0_pay9 k0_pay7
  pointwise

/-- One expert's contribution, in the reference's terms. -/
theorem contrib_eq (m : (ℓ : Loc nD τ sig) → Buf (Elt Ideal) ℓ) (c : Dev nD) (t : Fin 64) (n : Fin 2048) (e : Fin 32) : contrib m c t n e
      = gateOf (row (Ref.logits (Ref.toks (m ((c : Thread nD τ).loc main_arg0))) (m ((c : Thread nD τ).loc main_arg1))) t) e
        * expertOut (Ref.toks (F := Ideal) (m ((c : Thread nD τ).loc main_arg0))) (part (m ((c : Thread nD τ).loc main_arg2)) e)
          (part (m ((c : Thread nD τ).loc main_arg3)) e) (part (m ((c : Thread nD τ).loc main_arg4)) e) (part (m ((c : Thread nD τ).loc main_arg5)) e) t n := by
  have hx : (k0_pay8 (F := Ideal) (xmat m c) : S64x2048.Idx → EReal) = xmat m c := funext fun j => pay8_eq (xmat m c) j
  have hr : row (lgts m c) t = row (Ref.logits (Ref.toks (m ((c : Thread nD τ).loc main_arg0))) (m ((c : Thread nD τ).loc main_arg1))) t := by
    funext k
    refine (pay9_apply (xmat m c) (m ((c : Thread nD τ).loc main_arg1)) t k).trans ?_
    exact (Ref.logits_apply _ _ t k).symm
  unfold contrib
  rw [gatesOf_apply, hr]
  exact congrArg (fun x : S64x2048.Idx → EReal => gateOf _ e * expertOut x _ _ _ _ t n) hx

/-- The kernel's result is the reference, index by index. -/
theorem kernel_eq_whole (m : (ℓ : Loc nD τ sig) → Buf (Elt Ideal) ℓ) (c : Dev nD) :
    (Cert.KernelIdeal.Value.G6 m c : Vec Ideal S64x2048 .f32)
      = Ref.whole (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨t, n, rfl⟩ : ∃ (t : Fin 64) (n : Fin 2048), j = ix2 t n := ⟨j 0, j 1, by idx_vars j⟩
  have hs := Finset.sum_congr (s₁ := Finset.univ) (f := contrib m c t n) rfl fun e _ => contrib_eq m c t n e
  exact (kernel_apply m c t n).trans (hs.trans (Ref.whole_apply _ _ _ _ _ _ t n).symm)

end Cert.Moe

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end and leaves every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference, at the ideal instance, return the same array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5⟩ := hagree c
  refine (h c).1.trans ((Cert.Moe.Ref.res_eq m' c).trans ?_)
  rw [h0, h1, h2, h3, h4, h5]
  exact (Cert.Moe.kernel_eq_whole m c).symm

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
